-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x512 : Shape := ⟨2, ![4096, 512]⟩
abbrev S8x512x512 : Shape := ⟨3, ![8, 512, 512]⟩
abbrev S8 : Shape := ⟨1, ![8]⟩
abbrev S_ : Shape := ⟨0, ![]⟩
abbrev S512x512 : Shape := ⟨2, ![512, 512]⟩
abbrev S1x512x512 : Shape := ⟨3, ![1, 512, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x4096, .bf16⟩
  | .hbm, ⟨1, _⟩ => ⟨S4096x512, .bf16⟩
  | .local _ .vmem, ⟨0, _⟩ => ⟨S512x4096, .bf16⟩
  | .local _ .vmem, ⟨1, _⟩ => ⟨S4096x512, .bf16⟩
  | .local _ .vmem, ⟨2, _⟩ => ⟨S8x512x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v158 : BitVec 32 := Scalar.muli v2 c512_i32
  let c0_i32_108 : BitVec 32 := 0#32
  ![v158.toNat, 0]
def k0_off2 (d0 : Dev nD) (c1_i32_89 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v135 : BitVec 32 := Scalar.addi v2 c1_i32_89
  let c8_i32_90 : BitVec 32 := 8#32
  let c0_i32_91 : BitVec 32 := 0#32
  let v136 : BitVec 1 := Scalar.cmpi .eq c8_i32_90 c0_i32_91
  let c1_i32_92 : BitVec 32 := 1#32
  let v137 : BitVec 32 := Scalar.select v136 c1_i32_92 c8_i32_90
  let v138 : BitVec 32 := Scalar.remsi v135 v137
  let c0_i32_94 : BitVec 32 := 0#32
  let v140 : BitVec 1 := Scalar.cmpi .slt v138 c0_i32_94
  let c0_i32_95 : BitVec 32 := 0#32
  let v141 : BitVec 1 := Scalar.cmpi .slt v137 c0_i32_95
  let v142 : BitVec 1 := Scalar.xori v140 v141
  let c0_i32_93 : BitVec 32 := 0#32
  let v139 : BitVec 1 := Scalar.cmpi .ne v138 c0_i32_93
  let v143 : BitVec 1 := Scalar.andi v142 v139
  let v144 : BitVec 32 := Scalar.addi v138 v137
  let v145 : BitVec 32 := Scalar.select v143 v144 v138
  let c0_i32_109 : BitVec 32 := 0#32
  let c0_i32_110 : BitVec 32 := 0#32
  ![v145.toNat, 0, 0]
def k0_dev8 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_89 : BitVec 32 := 1#32
  let v135 : BitVec 32 := Scalar.addi v2 c1_i32_89
  let c8_i32_90 : BitVec 32 := 8#32
  let c0_i32_91 : BitVec 32 := 0#32
  let v136 : BitVec 1 := Scalar.cmpi .eq c8_i32_90 c0_i32_91
  let c1_i32_92 : BitVec 32 := 1#32
  let v137 : BitVec 32 := Scalar.select v136 c1_i32_92 c8_i32_90
  let v138 : BitVec 32 := Scalar.remsi v135 v137
  let c0_i32_94 : BitVec 32 := 0#32
  let v140 : BitVec 1 := Scalar.cmpi .slt v138 c0_i32_94
  let c0_i32_95 : BitVec 32 := 0#32
  let v141 : BitVec 1 := Scalar.cmpi .slt v137 c0_i32_95
  let v142 : BitVec 1 := Scalar.xori v140 v141
  let c0_i32_93 : BitVec 32 := 0#32
  let v139 : BitVec 1 := Scalar.cmpi .ne v138 c0_i32_93
  let v143 : BitVec 1 := Scalar.andi v142 v139
  let v144 : BitVec 32 := Scalar.addi v138 v137
  let v145 : BitVec 32 := Scalar.select v143 v144 v138
  let c1_i32_106 : BitVec 32 := 1#32
  let v159 : BitVec 32 := Scalar.muli v145 c1_i32_106
  let v160 : BitVec 32 := Scalar.addi c0_i32_107 v159
  v160.toNat
def k0_dev9 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_112 : BitVec 32 := 2#32
  let v169 : BitVec 32 := Scalar.addi v2 c2_i32_112
  let c8_i32_113 : BitVec 32 := 8#32
  let c0_i32_114 : BitVec 32 := 0#32
  let v170 : BitVec 1 := Scalar.cmpi .eq c8_i32_113 c0_i32_114
  let c1_i32_115 : BitVec 32 := 1#32
  let v171 : BitVec 32 := Scalar.select v170 c1_i32_115 c8_i32_113
  let v172 : BitVec 32 := Scalar.remsi v169 v171
  let c0_i32_117 : BitVec 32 := 0#32
  let v174 : BitVec 1 := Scalar.cmpi .slt v172 c0_i32_117
  let c0_i32_118 : BitVec 32 := 0#32
  let v175 : BitVec 1 := Scalar.cmpi .slt v171 c0_i32_118
  let v176 : BitVec 1 := Scalar.xori v174 v175
  let c0_i32_116 : BitVec 32 := 0#32
  let v173 : BitVec 1 := Scalar.cmpi .ne v172 c0_i32_116
  let v177 : BitVec 1 := Scalar.andi v176 v173
  let v178 : BitVec 32 := Scalar.addi v172 v171
  let v179 : BitVec 32 := Scalar.select v177 v178 v172
  let c1_i32_130 : BitVec 32 := 1#32
  let v193 : BitVec 32 := Scalar.muli v179 c1_i32_130
  let v194 : BitVec 32 := Scalar.addi c0_i32_131 v193
  v194.toNat
def k0_dev10 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_136 : BitVec 32 := 3#32
  let v203 : BitVec 32 := Scalar.addi v2 c3_i32_136
  let c8_i32_137 : BitVec 32 := 8#32
  let c0_i32_138 : BitVec 32 := 0#32
  let v204 : BitVec 1 := Scalar.cmpi .eq c8_i32_137 c0_i32_138
  let c1_i32_139 : BitVec 32 := 1#32
  let v205 : BitVec 32 := Scalar.select v204 c1_i32_139 c8_i32_137
  let v206 : BitVec 32 := Scalar.remsi v203 v205
  let c0_i32_141 : BitVec 32 := 0#32
  let v208 : BitVec 1 := Scalar.cmpi .slt v206 c0_i32_141
  let c0_i32_142 : BitVec 32 := 0#32
  let v209 : BitVec 1 := Scalar.cmpi .slt v205 c0_i32_142
  let v210 : BitVec 1 := Scalar.xori v208 v209
  let c0_i32_140 : BitVec 32 := 0#32
  let v207 : BitVec 1 := Scalar.cmpi .ne v206 c0_i32_140
  let v211 : BitVec 1 := Scalar.andi v210 v207
  let v212 : BitVec 32 := Scalar.addi v206 v205
  let v213 : BitVec 32 := Scalar.select v211 v212 v206
  let c1_i32_154 : BitVec 32 := 1#32
  let v227 : BitVec 32 := Scalar.muli v213 c1_i32_154
  let v228 : BitVec 32 := Scalar.addi c0_i32_155 v227
  v228.toNat
def k0_dev11 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_160 : BitVec 32 := 4#32
  let v237 : BitVec 32 := Scalar.addi v2 c4_i32_160
  let c8_i32_161 : BitVec 32 := 8#32
  let c0_i32_162 : BitVec 32 := 0#32
  let v238 : BitVec 1 := Scalar.cmpi .eq c8_i32_161 c0_i32_162
  let c1_i32_163 : BitVec 32 := 1#32
  let v239 : BitVec 32 := Scalar.select v238 c1_i32_163 c8_i32_161
  let v240 : BitVec 32 := Scalar.remsi v237 v239
  let c0_i32_165 : BitVec 32 := 0#32
  let v242 : BitVec 1 := Scalar.cmpi .slt v240 c0_i32_165
  let c0_i32_166 : BitVec 32 := 0#32
  let v243 : BitVec 1 := Scalar.cmpi .slt v239 c0_i32_166
  let v244 : BitVec 1 := Scalar.xori v242 v243
  let c0_i32_164 : BitVec 32 := 0#32
  let v241 : BitVec 1 := Scalar.cmpi .ne v240 c0_i32_164
  let v245 : BitVec 1 := Scalar.andi v244 v241
  let v246 : BitVec 32 := Scalar.addi v240 v239
  let v247 : BitVec 32 := Scalar.select v245 v246 v240
  let c1_i32_178 : BitVec 32 := 1#32
  let v261 : BitVec 32 := Scalar.muli v247 c1_i32_178
  let v262 : BitVec 32 := Scalar.addi c0_i32_179 v261
  v262.toNat
def k0_dev12 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_184 : BitVec 32 := 5#32
  let v271 : BitVec 32 := Scalar.addi v2 c5_i32_184
  let c8_i32_185 : BitVec 32 := 8#32
  let c0_i32_186 : BitVec 32 := 0#32
  let v272 : BitVec 1 := Scalar.cmpi .eq c8_i32_185 c0_i32_186
  let c1_i32_187 : BitVec 32 := 1#32
  let v273 : BitVec 32 := Scalar.select v272 c1_i32_187 c8_i32_185
  let v274 : BitVec 32 := Scalar.remsi v271 v273
  let c0_i32_189 : BitVec 32 := 0#32
  let v276 : BitVec 1 := Scalar.cmpi .slt v274 c0_i32_189
  let c0_i32_190 : BitVec 32 := 0#32
  let v277 : BitVec 1 := Scalar.cmpi .slt v273 c0_i32_190
  let v278 : BitVec 1 := Scalar.xori v276 v277
  let c0_i32_188 : BitVec 32 := 0#32
  let v275 : BitVec 1 := Scalar.cmpi .ne v274 c0_i32_188
  let v279 : BitVec 1 := Scalar.andi v278 v275
  let v280 : BitVec 32 := Scalar.addi v274 v273
  let v281 : BitVec 32 := Scalar.select v279 v280 v274
  let c1_i32_202 : BitVec 32 := 1#32
  let v295 : BitVec 32 := Scalar.muli v281 c1_i32_202
  let v296 : BitVec 32 := Scalar.addi c0_i32_203 v295
  v296.toNat
def k0_dev13 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_208 : BitVec 32 := 6#32
  let v305 : BitVec 32 := Scalar.addi v2 c6_i32_208
  let c8_i32_209 : BitVec 32 := 8#32
  let c0_i32_210 : BitVec 32 := 0#32
  let v306 : BitVec 1 := Scalar.cmpi .eq c8_i32_209 c0_i32_210
  let c1_i32_211 : BitVec 32 := 1#32
  let v307 : BitVec 32 := Scalar.select v306 c1_i32_211 c8_i32_209
  let v308 : BitVec 32 := Scalar.remsi v305 v307
  let c0_i32_213 : BitVec 32 := 0#32
  let v310 : BitVec 1 := Scalar.cmpi .slt v308 c0_i32_213
  let c0_i32_214 : BitVec 32 := 0#32
  let v311 : BitVec 1 := Scalar.cmpi .slt v307 c0_i32_214
  let v312 : BitVec 1 := Scalar.xori v310 v311
  let c0_i32_212 : BitVec 32 := 0#32
  let v309 : BitVec 1 := Scalar.cmpi .ne v308 c0_i32_212
  let v313 : BitVec 1 := Scalar.andi v312 v309
  let v314 : BitVec 32 := Scalar.addi v308 v307
  let v315 : BitVec 32 := Scalar.select v313 v314 v308
  let c1_i32_226 : BitVec 32 := 1#32
  let v329 : BitVec 32 := Scalar.muli v315 c1_i32_226
  let v330 : BitVec 32 := Scalar.addi c0_i32_227 v329
  v330.toNat
def k0_dev14 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_232 : BitVec 32 := 7#32
  let v339 : BitVec 32 := Scalar.addi v2 c7_i32_232
  let c8_i32_233 : BitVec 32 := 8#32
  let c0_i32_234 : BitVec 32 := 0#32
  let v340 : BitVec 1 := Scalar.cmpi .eq c8_i32_233 c0_i32_234
  let c1_i32_235 : BitVec 32 := 1#32
  let v341 : BitVec 32 := Scalar.select v340 c1_i32_235 c8_i32_233
  let v342 : BitVec 32 := Scalar.remsi v339 v341
  let c0_i32_237 : BitVec 32 := 0#32
  let v344 : BitVec 1 := Scalar.cmpi .slt v342 c0_i32_237
  let c0_i32_238 : BitVec 32 := 0#32
  let v345 : BitVec 1 := Scalar.cmpi .slt v341 c0_i32_238
  let v346 : BitVec 1 := Scalar.xori v344 v345
  let c0_i32_236 : BitVec 32 := 0#32
  let v343 : BitVec 1 := Scalar.cmpi .ne v342 c0_i32_236
  let v347 : BitVec 1 := Scalar.andi v346 v343
  let v348 : BitVec 32 := Scalar.addi v342 v341
  let v349 : BitVec 32 := Scalar.select v347 v348 v342
  let c1_i32_250 : BitVec 32 := 1#32
  let v363 : BitVec 32 := Scalar.muli v349 c1_i32_250
  let v364 : BitVec 32 := Scalar.addi c0_i32_251 v363
  v364.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_258 : BitVec 32 := 0#32
  let c0_i32_259 : BitVec 32 := 0#32
  ![v2.toNat, 0, 0]
def k0_off4 (d0 : Dev nD) (c1_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_96 : BitVec 32 := 8#32
  let v146 : BitVec 32 := Scalar.addi v2 c8_i32_96
  let v147 : BitVec 32 := Scalar.subi v146 c1_i32_97
  let c8_i32_98 : BitVec 32 := 8#32
  let c0_i32_99 : BitVec 32 := 0#32
  let v148 : BitVec 1 := Scalar.cmpi .eq c8_i32_98 c0_i32_99
  let c1_i32_100 : BitVec 32 := 1#32
  let v149 : BitVec 32 := Scalar.select v148 c1_i32_100 c8_i32_98
  let v150 : BitVec 32 := Scalar.remsi v147 v149
  let c0_i32_102 : BitVec 32 := 0#32
  let v152 : BitVec 1 := Scalar.cmpi .slt v150 c0_i32_102
  let c0_i32_103 : BitVec 32 := 0#32
  let v153 : BitVec 1 := Scalar.cmpi .slt v149 c0_i32_103
  let v154 : BitVec 1 := Scalar.xori v152 v153
  let c0_i32_101 : BitVec 32 := 0#32
  let v151 : BitVec 1 := Scalar.cmpi .ne v150 c0_i32_101
  let v155 : BitVec 1 := Scalar.andi v154 v151
  let v156 : BitVec 32 := Scalar.addi v150 v149
  let v157 : BitVec 32 := Scalar.select v155 v156 v150
  let c512_i32_111 : BitVec 32 := 512#32
  let v168 : BitVec 32 := Scalar.muli v157 c512_i32_111
  let c0_i32_267 : BitVec 32 := 0#32
  ![v168.toNat, 0]
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩

abbrev nBuf : Space → Nat
  | .hbm => 1
  | .vmem => 0
  | .smem => 0
  | _ => 0

abbrev bufTy : (tb : Table) → Fin (tcTables nBuf tb) → BufTy
  | .hbm, ⟨0, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Blocks.lean ====
/-
# The eight blocks of the two buffers the transfers touch

A device holds a block of rows `x` (512 rows, 4096 columns). The kernel copies it into a scratch buffer of eight
slabs, slab `j` being the columns `512 j …` of `x`, and sends slab `j` to device `j`, which receives it as its rows
`512 s …`, `s` the sender. This module has the devices' cyclic shifts, the closed forms of the printed offsets, the
blocks as memrefs, what the buffers hold, the cutting of a whole buffer into its eight blocks and back, and the two
element equations: what a transfer leaves in a block of the result, and what a store leaves in the scratch.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueIdx
public import Idealize.ShloMosaic.Lib.Tactic

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Cyclic shifts of the eight devices -/

set_option backward.proofsInPublic true in
/-- The device `k` places after `c`. -/
def up (c : Dev nD) (k : Fin 8) : Dev nD := ⟨(c.val + k.val) % 8, Nat.mod_lt _ (by decide)⟩
set_option backward.proofsInPublic true in
/-- The device `k` places before `c`. -/
def dn (c : Dev nD) (k : Fin 8) : Dev nD := ⟨(c.val + (8 - k.val)) % 8, Nat.mod_lt _ (by decide)⟩
set_option backward.proofsInPublic true in
/-- The shift that undoes `k`. -/
def neg (k : Fin 8) : Fin 8 := ⟨(8 - k.val) % 8, Nat.mod_lt _ (by decide)⟩

theorem dn_up (c : Dev nD) (k : Fin 8) : dn (up c k) k = c := by revert c k; decide
theorem up_dn (c : Dev nD) (k : Fin 8) : up (dn c k) k = c := by revert c k; decide
theorem dn_neg (c : Dev nD) (k : Fin 8) : dn c (neg k) = up c k := by revert c k; decide
theorem up_zero (c : Dev nD) : up c 0 = c := by revert c; decide
theorem dn_zero (c : Dev nD) : dn c 0 = c := by revert c; decide
theorem up_inj {c : Dev nD} {k k' : Fin 8} : up c k = up c k' → k = k' := by revert c k k'; decide
theorem dn_inj {c : Dev nD} {k k' : Fin 8} : dn c k = dn c k' → k = k' := by revert c k k'; decide

/-- Shifting by `k` as a permutation of the devices. -/
def shift (k : Fin 8) : Dev nD ≃ Dev nD := ⟨fun c => up c k, fun c => dn c k, fun c => dn_up c k, fun c => up_dn c k⟩

/-- For a device `c`, the shifts and the devices correspond, shift `k` to the device `k` places after `c`. -/
def upEquiv (c : Dev nD) : Fin 8 ≃ Dev nD :=
  ⟨fun k => up c k, fun d => ⟨(d.val + (8 - c.val)) % 8, Nat.mod_lt _ (by decide)⟩,
    by revert c; decide, by revert c; decide⟩
/-- The same with the device `k` places before `c`. -/
def dnEquiv (c : Dev nD) : Fin 8 ≃ Dev nD :=
  ⟨fun k => dn c k, fun d => ⟨(c.val + (8 - d.val)) % 8, Nat.mod_lt _ (by decide)⟩,
    by revert c; decide, by revert c; decide⟩

/-! ## The printed offsets in closed form -/

/-- The slab a transfer of shift `r + 1` reads is the target's. -/
theorem off2_eq : ∀ (c : Dev nD) (r : Fin 7), k0_off2 c (BitVec.ofNat 32 (1 + r.val)) = ![(up c r.succ).val, 0, 0] := by decide +kernel
/-- The rows awaited from shift `r + 1` are the sender's. -/
theorem off4_eq : ∀ (c : Dev nD) (r : Fin 7), k0_off4 c (BitVec.ofNat 32 (1 + r.val)) = ![512 * (dn c r.succ).val, 0] := by decide +kernel

theorem out_inb (j : Dev nD) : ∀ a, (![512 * j.val, 0] : Fin 2 → ℕ) a + S512x512.size a ≤ S4096x512.size a := by
  revert j; decide
theorem cast_inb (j : Dev nD) : ∀ a, (![j.val, 0, 0] : Fin 3 → ℕ) a + S1x512x512.size a ≤ S8x512x512.size a := by
  revert j; decide
theorem x_inb (j : Dev nD) : ∀ a, (![0, 512 * j.val] : Fin 2 → ℕ) a + S512x512.size a ≤ S512x4096.size a := by
  revert j; decide

/-! ## The blocks as memrefs -/

abbrev xM : Memref sig .tc .vmem S512x4096 .bf16 := Memref.whole cc0_stg0_0
abbrev oM : Memref sig .tc .vmem S4096x512 .bf16 := Memref.whole cc0_stg1_0
abbrev bM : Memref sig .tc .vmem S8x512x512 .bf16 := Memref.whole cc0_scratch0

/-- The rows `512 j …` of the result. -/
abbrev outR (j : Dev nD) : Rect S4096x512 := Rect.unit (s := S4096x512) ![512 * j.val, 0] S512x512.size (out_inb j)
/-- Slab `j` of the scratch. -/
abbrev castR (j : Dev nD) : Rect S8x512x512 := Rect.unit (s := S8x512x512) ![j.val, 0, 0] S1x512x512.size (cast_inb j)
/-- The columns `512 j …` of `x`. -/
abbrev xR (j : Dev nD) : Rect S512x4096 := Rect.unit (s := S512x4096) ![0, 512 * j.val] S512x512.size (x_inb j)

abbrev outM (j : Dev nD) : Memref sig .tc .vmem S512x512 .bf16 := oM.slice (outR j) (fun _ => rfl)
abbrev castM (j : Dev nD) : Memref sig .tc .vmem S512x512 .bf16 :=
  (bM.slice (castR j) (fun _ => rfl)).squeeze S512x512 squeezes_S1x512x512_S512x512

/-- A slice of the result at offsets equal to block `j`'s is block `j`. -/
theorem outM_of {off : Fin 2 → ℕ} (j : Dev nD) (h : off = ![512 * j.val, 0])
    (inb : ∀ a, off a + S512x512.size a ≤ S4096x512.size a) (hr) :
    (oM.slice (Rect.unit (s := S4096x512) off S512x512.size inb) hr : Memref sig .tc .vmem S512x512 .bf16) = outM j := by
  subst h; rfl
/-- A squeezed slice of the scratch at offsets equal to slab `j`'s is slab `j`. -/
theorem castM_of {off : Fin 3 → ℕ} (j : Dev nD) (h : off = ![j.val, 0, 0])
    (inb : ∀ a, off a + S1x512x512.size a ≤ S8x512x512.size a) (hr) :
    ((bM.slice (Rect.unit (s := S8x512x512) off S1x512x512.size inb) hr : Memref sig .tc .vmem S1x512x512 .bf16).squeeze S512x512 squeezes_S1x512x512_S512x512)
      = castM j := by
  subst h; rfl

theorem outM_set (j : Dev nD) : (outM j).view.set = (outR j).set := View.set_slice_whole _ _
theorem castM_set (j : Dev nD) : (castM j).view.set = (castR j).set :=
  (View.set_reshape _ _).trans (View.set_slice_whole _ _)

/-- What one transfer credits its semaphores. -/
abbrev N : ℕ := (outM 0).view.dmaCredit
/-- Every row block and every slab is credited the same. -/
theorem out_credit (j : Dev nD) : (outM j).view.dmaCredit = N := rfl
theorem cast_credit (j : Dev nD) : (castM j).view.dmaCredit = N := rfl
theorem credit_out {w : Memref sig .tc .vmem S512x512 .bf16} {j : Dev nD} (h : w = outM j) : w.view.dmaCredit = N := h ▸ out_credit j
theorem credit_cast {w : Memref sig .tc .vmem S512x512 .bf16} {j : Dev nD} (h : w = castM j) : w.view.dmaCredit = N := h ▸ cast_credit j
theorem out_amount (j : Dev nD) (q : DmaSem sig) : (outM j).view.amount (.dma q) = N := out_credit j
theorem N_pos : 0 < N := View.dmaCredit_pos _ (by decide)

/-! ## Contents -/

/-- The columns `512 j …` of a block of rows, the scratch's slab `j`, over all `j`. -/
def castOf (x : (cc0_stg0_0 : Ref sig .tc).ty.Contents (Elt F)) : (cc0_scratch0 : Ref sig .tc).ty.Contents (Elt F) :=
  fun i => x (ix2 (⟨(i 1).val, (i 1).isLt⟩ : Fin 512)
    (⟨512 * (i 0).val + (i 2).val, by have h0 : (i 0).val < 8 := (i 0).isLt; have h2 : (i 2).val < 512 := (i 2).isLt; omega⟩ : Fin 4096))

/-- The result of device `c` when device `s` holds the block of rows `X s`: row `512 s + r` is the `512` entries of
    `X s`'s row `r` from column `512 c`. -/
def outOf (X : Dev nD → (cc0_stg0_0 : Ref sig .tc).ty.Contents (Elt F)) (c : Dev nD) :
    (cc0_stg1_0 : Ref sig .tc).ty.Contents (Elt F) :=
  fun i => X (⟨(i 0).val / 512, by have h0 : (i 0).val < 4096 := (i 0).isLt; show _ < 8; omega⟩ : Dev nD)
    (ix2 (⟨(i 0).val % 512, Nat.mod_lt _ (by decide)⟩ : Fin 512)
      (⟨512 * c.val + (i 1).val, by have h0 : c.val < 8 := c.isLt; have h1 : (i 1).val < 512 := (i 1).isLt; omega⟩ : Fin 4096))

/-- The columns `512 j …` of `x`, as the vector a load of them yields. -/
def xblk (x : (cc0_stg0_0 : Ref sig .tc).ty.Contents (Elt F)) (j : Dev nD) : Vec F S512x512 .bf16 :=
  fun y => x (ix2 (⟨(y 0).val, (y 0).isLt⟩ : Fin 512)
    (⟨512 * j.val + (y 1).val, by have h0 : j.val < 8 := j.isLt; have h1 : (y 1).val < 512 := (y 1).isLt; omega⟩ : Fin 4096))

omit [FloatOps F] in
/-- Loading the columns `512 j …` of `x` yields them. -/
theorem read_xblk (x : (cc0_stg0_0 : Ref sig .tc).ty.Contents (Elt F)) (j : Dev nD) :
    (xM.view.readAt (Elt F) (xR j).toLoadRect x : Vec F S512x512 .bf16) = xblk x j := by
  funext y
  show x ((xR j).toLoadRect.idx y) = _
  refine congrArg x (funext fun a => ?_)
  match a with
  | ⟨0, _⟩ => exact Fin.ext (by show 0 + 1 * (y 0).val = _; simp)
  | ⟨1, _⟩ => exact Fin.ext (by show 512 * j.val + 1 * (y 1).val = _; simp)

/-- A row block put back at two axes and then given a leading axis of one. -/
abbrev lift (v : Vec F S512x512 .bf16) : FVec F S1x512x512 .bf16 :=
  shapeCast S1x512x512 (shapeCast S512x512 v shapeCasts_S512x512_S512x512) shapeCasts_S512x512_S1x512x512

omit [FloatOps F] in
/-- Its elements: the leading coordinate drops. -/
theorem lift_apply (v : Vec F S512x512 .bf16) (y : S1x512x512.Idx) :
    lift v y = v (ix2 (⟨(y 1).val, (y 1).isLt⟩ : Fin 512) (⟨(y 2).val, (y 2).isLt⟩ : Fin 512)) := by
  have e : Shape.reshapeEquiv (s := S1x512x512) (s' := S512x512) squeezes_S1x512x512_S512x512.numel_eq
      (ix2 (⟨(y 1).val, (y 1).isLt⟩ : Fin 512) (⟨(y 2).val, (y 2).isLt⟩ : Fin 512)) = y := by
    refine (Shape.reshapeEquiv_cons_one _ _).trans (funext fun a => ?_)
    match a with
    | ⟨0, _⟩ => exact Fin.ext (by have h : (y 0).val < 1 := (y 0).isLt; show 0 = (y 0).val; omega)
    | ⟨1, _⟩ => rfl
    | ⟨2, _⟩ => rfl
  show v (Shape.reshapeEquiv _ (Shape.reshapeEquiv _ y)) = _
  rw [Shape.reshapeEquiv_reshapeEquiv]
  conv_lhs => rw [← e]
  rw [Shape.reshapeEquiv_reshapeEquiv]
  exact congrArg v (Shape.reshapeEquiv_self _ _)

omit [FloatOps F] in
/-- A store of the columns `512 j …` into slab `j`, the slabs before it already holding theirs, leaves one slab more
    holding its columns. -/
theorem store_eq (x : (cc0_stg0_0 : Ref sig .tc).ty.Contents (Elt F)) (f : (cc0_scratch0 : Ref sig .tc).ty.Contents (Elt F)) (j : Dev nD)
    (h : ∀ i : (cc0_scratch0 : Ref sig .tc).ty.Idx, (i 0).val < j.val → f i = castOf x i) (i : (cc0_scratch0 : Ref sig .tc).ty.Idx)
    (hi : (i 0).val < j.val + 1) :
    (bM.access (castR j) : View sig .tc _ _ _).write (Elt F) f (lift (xblk x j)) Finset.univ i = castOf x i := by
  by_cases hj : (i 0).val = j.val
  · have h1 : (i 1).val < 512 := (i 1).isLt
    have h2 : (i 2).val < 512 := (i 2).isLt
    have e : i = (bM.access (castR j) : View sig .tc _ _ _).emb (ix3 (⟨0, Nat.one_pos⟩ : Fin 1) (⟨(i 1).val, h1⟩ : Fin 512) (⟨(i 2).val, h2⟩ : Fin 512)) := by
      funext a
      match a with
      | ⟨0, _⟩ => exact Fin.ext (by show (i 0).val = j.val + 1 * 0; omega)
      | ⟨1, _⟩ => exact Fin.ext (by show (i 1).val = 0 + 1 * (i 1).val; omega)
      | ⟨2, _⟩ => exact Fin.ext (by show (i 2).val = 0 + 1 * (i 2).val; omega)
    conv_lhs => rw [e, View.write_emb_of_mem _ _ (Finset.mem_univ _)]
    show lift (xblk x j) _ = _
    rw [lift_apply]
    unfold xblk castOf
    refine congrArg x (funext fun a => ?_)
    match a with
    | ⟨0, _⟩ => rfl
    | ⟨1, _⟩ => exact Fin.ext (by show 512 * j.val + (i 2).val = 512 * (i 0).val + (i 2).val; rw [hj])
  · rw [View.write_of_not_mem _ _ _ ?_, h i (by omega)]
    rw [View.setOn_univ]
    intro hm
    have hm' := (View.set_slice_whole cc0_scratch0 (castR j)) ▸ hm
    have h0 := (Rect.mem_set_unit.mp hm') 0
    have h1 : j.val ≤ (i 0).val := h0.1
    have h2 : (i 0).val < j.val + 1 := h0.2
    omega

omit [FloatOps F] in
/-- Slab `c` of device `s`'s scratch written into rows `512 s …` of the result gives, on those rows, device `c`'s
    result. -/
theorem land_eq (X : Dev nD → (cc0_stg0_0 : Ref sig .tc).ty.Contents (Elt F)) (s c : Dev nD)
    (fd : (cc0_stg1_0 : Ref sig .tc).ty.Contents (Elt F)) (i : (cc0_stg1_0 : Ref sig .tc).ty.Idx) (hi : i ∈ (outM s).view.set) :
    (outM s).view.write (Elt F) fd ((castM c).view.read (Elt F) (castOf (X s))) Finset.univ i = outOf X c i := by
  obtain ⟨y, -, rfl⟩ := Finset.mem_map.mp hi
  rw [View.write_emb_of_mem _ _ (Finset.mem_univ _)]
  show castOf (X s) ((castM c).view.emb y) = _
  have e : (castM c).view.emb y = ix3 (⟨c.val, c.isLt⟩ : Fin 8) (⟨(y 0).val, (y 0).isLt⟩ : Fin 512) (⟨(y 1).val, (y 1).isLt⟩ : Fin 512) := by
    show (castR c).idx (Shape.reshapeEquiv _ y) = _
    rw [show Shape.reshapeEquiv (s := S1x512x512) (s' := S512x512) squeezes_S1x512x512_S512x512.numel_eq y = Fin.cons ⟨0, Nat.one_pos⟩ y from
      Shape.reshapeEquiv_cons_one _ _]
    funext a
    match a with
    | ⟨0, _⟩ => exact Fin.ext (by show c.val + 1 * 0 = c.val; omega)
    | ⟨1, _⟩ => exact Fin.ext (by show 0 + 1 * (y 0).val = (y 0).val; omega)
    | ⟨2, _⟩ => exact Fin.ext (by show 0 + 1 * (y 1).val = (y 1).val; omega)
  rw [e]
  have h0 : (y 0).val < 512 := (y 0).isLt
  have e0 : (((outM s).view.emb y) 0).val = 512 * s.val + (y 0).val := by show 512 * s.val + 1 * (y 0).val = _; omega
  have e1 : (((outM s).view.emb y) 1).val = (y 1).val := by show 0 + 1 * (y 1).val = _; omega
  unfold castOf outOf
  have hs : (⟨(((outM s).view.emb y) 0).val / 512, by
      have h0 : (((outM s).view.emb y) 0).val < 4096 := (((outM s).view.emb y) 0).isLt; show _ < 8; omega⟩ : Dev nD) = s :=
    Fin.ext (by show (((outM s).view.emb y) 0).val / 512 = s.val; rw [e0]; omega)
  rw [hs]
  refine congrArg (X s) (funext fun a => ?_)
  match a with
  | ⟨0, _⟩ => exact Fin.ext (by show (y 0).val = (((outM s).view.emb y) 0).val % 512; rw [e0]; omega)
  | ⟨1, _⟩ => exact Fin.ext (by show 512 * c.val + (y 1).val = 512 * c.val + (((outM s).view.emb y) 1).val; rw [e1])

/-! ## The blocks tile their buffers -/

/-- The elements of row block `b`, and those of slab `b`, as sets of indices of the whole buffer. -/
abbrev outI (b : Fin 8) : Finset S4096x512.Idx := (outM b).view.set
abbrev castI (b : Fin 8) : Finset S8x512x512.Idx := (castM b).view.set

theorem out_disjoint (b b' : Fin 8) (h : b ≠ b') : Disjoint (outI b) (outI b') := by
  unfold outI; rw [outM_set, outM_set]
  exact Ring.lead_disjoint (s := S4096x512) (0 : Fin 2) 512 (fun b : Fin 8 => ![512 * b.val, 0]) S512x512.size out_inb
    (fun _ => rfl) rfl b b' h
theorem out_cover : Finset.univ.biUnion outI = Finset.univ := by
  rw [show outI = fun b => (outR b).set from funext outM_set]
  exact Ring.lead_cover (s := S4096x512) (0 : Fin 2) 512 (fun b : Fin 8 => ![512 * b.val, 0]) S512x512.size out_inb
    (fun _ => rfl) (by decide) rfl (by decide) rfl
theorem cast_disjoint (b b' : Fin 8) (h : b ≠ b') : Disjoint (castI b) (castI b') := by
  unfold castI; rw [castM_set, castM_set]
  exact Ring.lead_disjoint (s := S8x512x512) (0 : Fin 3) 1 (fun b : Fin 8 => ![b.val, 0, 0]) S1x512x512.size cast_inb
    (fun b => (Nat.one_mul _).symm) rfl b b' h
theorem cast_cover : Finset.univ.biUnion castI = Finset.univ := by
  rw [show castI = fun b => (castR b).set from funext castM_set]
  exact Ring.lead_cover (s := S8x512x512) (0 : Fin 3) 1 (fun b : Fin 8 => ![b.val, 0, 0]) S1x512x512.size cast_inb
    (fun b => (Nat.one_mul _).symm) (by decide) rfl (by decide) rfl

end Cert.Exchange

end
-- ==== Proof.Protocol.lean ====
/-
# The protocol of the exchange

Device `c` has eighteen cells: eight send counters, eight receive counters, one counter for its local copy, and the
barrier counter. Each is used in one round.

* Barrier: `c` signals the device `k` places after it, for every shift `k = 1 … 7`, and with the signal hands over the
  rows of its own result which that device is going to fill. It then waits for seven units, and so holds, on each of the
  seven others, the rows it is to fill.
* Send counter `k` gives `c` back the slab it sent to the device `k` places after it.
* Receive counter `k` gives `c` the rows the device `k` places before it filled, filled.
* The local counter gives `c` back its own slab and its own rows, filled.

`X s` is the block of rows device `s` holds.
-/
module

public import proofs.«01_k».proof.Proof.Blocks

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange, its duties named by a shift. -/
abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Shifts still to come, shifts done -/

/-- The shifts after `n`. -/
def pend (n : Fin 8) : Finset (Fin 8) := Finset.univ.filter fun k => n < k
/-- The shifts from 1 to `n`. -/
def done (n : Fin 8) : Finset (Fin 8) := Finset.univ.filter fun k => 0 < k ∧ k ≤ n

/-- `k'` is the shift following `k`. -/
abbrev Next (k k' : Fin 8) : Prop := k'.val = k.val + 1

theorem pend_next : ∀ {k k' : Fin 8}, Next k k' → pend k = insert k' (pend k') ∧ k' ∉ pend k' := by decide
theorem done_next : ∀ {k k' : Fin 8}, Next k k' → done k' = insert k' (done k) ∧ k' ∉ done k := by decide
theorem next_mem : ∀ {k k' : Fin 8}, Next k k' → k' ∈ pend 0 := by decide
theorem univ_pend : (Finset.univ : Finset (Fin 8)) = insert 0 (pend 0) := by decide
theorem zero_notMem : (0 : Fin 8) ∉ pend 0 := by decide
theorem pend_last : pend 7 = ∅ := by decide
theorem done_zero : done 0 = ∅ := by decide
theorem done_last : done 7 = pend 0 := by decide
theorem pend_neg : pend 0 = (pend 0).map ⟨neg, by decide⟩ := by decide

omit [FloatOps F] in
theorem sep_pend {k k' : Fin 8} (h : Next k k') (Φ : Fin 8 → sProp 𝕄) : bigSep (pend k) Φ = iprop(Φ k' ∗ bigSep (pend k') Φ) := by
  rw [(pend_next h).1, bigSep_insert (pend_next h).2]; rfl
omit [FloatOps F] in
theorem sep_done {k k' : Fin 8} (h : Next k k') (Φ : Fin 8 → sProp 𝕄) : bigSep (done k') Φ = iprop(Φ k' ∗ bigSep (done k) Φ) := by
  rw [(done_next h).1, bigSep_insert (done_next h).2]; rfl
omit [FloatOps F] in
theorem sep_all (Φ : Fin 8 → sProp 𝕄) : bigSep Finset.univ Φ = iprop(Φ 0 ∗ bigSep (pend 0) Φ) := by
  rw [univ_pend, bigSep_insert zero_notMem]; rfl

/-! ## Cells -/

/-- The runtime's barrier semaphore; the send, receive and local semaphores. -/
abbrev barS : Sem sig := (SemArray.scalar (sig.barrier 0 rfl) : Sems sig S_).sem
def sendS (k : Fin 8) : DmaSem sig := ⟨2 + k.val, by have := k.isLt; show _ < 19; omega⟩
def recvS (k : Fin 8) : DmaSem sig := ⟨10 + k.val, by have := k.isLt; show _ < 19; omega⟩
def locS : DmaSem sig := ⟨18, by decide⟩

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))
abbrev locCell (c : Dev nD) : GSem nD τ sig := ((c : Thread nD τ), .dma locS)

/-- The launch's own semaphores in their order: sends, receives, local. -/
def osem (j : Fin 17) : SemLoc sig := .dma ⟨2 + j.val, by have := j.isLt; show _ < 19; omega⟩
/-- All of a device's cells, the barrier last. -/
def csem (j : Fin 18) : SemLoc sig := if h : j.val < 17 then osem ⟨j.val, h⟩ else .reg barS
abbrev kcell (cj : Dev nD × Fin 18) : GSem nD τ sig := ((cj.1 : Thread nD τ), csem cj.2)

def jSend (k : Fin 8) : Fin 18 := ⟨k.val, by have := k.isLt; omega⟩
def jRecv (k : Fin 8) : Fin 18 := ⟨8 + k.val, by have := k.isLt; omega⟩
def jLoc : Fin 18 := 16
def jBar : Fin 18 := 17

theorem csem_send (k : Fin 8) : csem (jSend k) = .dma (sendS k) := by revert k; decide
theorem csem_recv (k : Fin 8) : csem (jRecv k) = .dma (recvS k) := by revert k; decide
theorem csem_loc : csem jLoc = .dma locS := by decide
theorem csem_bar : csem jBar = .reg barS := by decide

def jSends : Fin 8 ↪ Fin 18 := ⟨jSend, by decide⟩
def jRecvs : Fin 8 ↪ Fin 18 := ⟨jRecv, by decide⟩

omit [FloatOps F] in
/-- A fact about each of a device's cells, sorted by kind. -/
theorem cells_eq (Φ : SemLoc sig → sProp 𝕄) :
    (bigSep Finset.univ fun j : Fin 18 => Φ (csem j))
      = iprop((Φ (.dma (sendS 0)) ∗ bigSep (pend 0) fun k => Φ (.dma (sendS k)))
          ∗ (Φ (.dma (recvS 0)) ∗ bigSep (pend 0) fun k => Φ (.dma (recvS k))) ∗ Φ (.dma locS) ∗ Φ (.reg barS)) := by
  rw [← sep_all fun k => Φ (.dma (sendS k)), ← sep_all fun k => Φ (.dma (recvS k)),
    show (Finset.univ : Finset (Fin 18)) = Finset.univ.map jSends ∪ (Finset.univ.map jRecvs ∪ ({jLoc} ∪ {jBar})) by decide,
    bigSep_union (by decide), bigSep_union (by decide), bigSep_union (by decide), bigSep_map, bigSep_map, bigSep_singleton, bigSep_singleton,
    csem_loc, csem_bar, bigSep_congr fun k _ => show Φ (csem (jSends k)) = Φ (.dma (sendS k)) from congrArg Φ (csem_send k),
    bigSep_congr fun k _ => show Φ (csem (jRecvs k)) = Φ (.dma (recvS k)) from congrArg Φ (csem_recv k)]
  rfl

/-! ## Blocks held -/

/-- Device `c`'s row block `j` at contents `f` (of the whole buffer, only the block's being said), and its slab `j`. -/
def outPts (c j : Dev nD) (f : (cc0_stg1_0 : Ref sig .tc).ty.Contents (Elt F)) : sProp 𝕄 :=
  (outM j).view.loc (c : Thread nD τ) ↦[(outM j).view.set]{fullShare} f
def castPts (c j : Dev nD) (f : (cc0_scratch0 : Ref sig .tc).ty.Contents (Elt F)) : sProp 𝕄 :=
  (castM j).view.loc (c : Thread nD τ) ↦[(castM j).view.set]{fullShare} f

omit [FloatOps F] in
instance outPts_storable (c j : Dev nD) (f) : BI.Storable (upEmb : UEmb _ 𝕄) (outPts (F := F) c j f) := by unfold outPts; infer_instance
omit [FloatOps F] in
instance castPts_storable (c j : Dev nD) (f) : BI.Storable (upEmb : UEmb _ 𝕄) (castPts (F := F) c j f) := by unfold castPts; infer_instance

omit [FloatOps F] in
/-- The result buffer held whole is its eight row blocks; -/
theorem out_split (c : Dev nD) (f : (cc0_stg1_0 : Ref sig .tc).ty.Contents (Elt F)) :
    (((c : Thread nD τ).loc cc0_stg1_0) ↦{fullShare} f : sProp 𝕄) = bigSep Finset.univ fun j => outPts c j f :=
  Ring.pointsTo_blocks (ℓ := (c : Thread nD τ).loc cc0_stg1_0) outI out_disjoint out_cover f
omit [FloatOps F] in
/-- the scratch held whole is its eight slabs. -/
theorem cast_split (c : Dev nD) (f : (cc0_scratch0 : Ref sig .tc).ty.Contents (Elt F)) :
    (((c : Thread nD τ).loc cc0_scratch0) ↦{fullShare} f : sProp 𝕄) = bigSep Finset.univ fun j => castPts c j f :=
  Ring.pointsTo_blocks (ℓ := (c : Thread nD τ).loc cc0_scratch0) castI cast_disjoint cast_cover f

omit [FloatOps F] in
/-- Row block `s` of device `c` written with device `s`'s slab `c` is row block `s` of `c`'s result. -/
theorem landed_eq (X : Dev nD → (cc0_stg0_0 : Ref sig .tc).ty.Contents (Elt F)) (s c : Dev nD)
    (fd : (cc0_stg1_0 : Ref sig .tc).ty.Contents (Elt F)) :
    outPts c s ((outM s).view.write (Elt F) fd ((castM c).view.read (Elt F) (castOf (X s))) Finset.univ) = outPts c s (outOf X c) := by
  unfold outPts
  exact pointsTo_congr fun i hi => land_eq X s c fd i hi

variable (X : Dev nD → (cc0_stg0_0 : Ref sig .tc).ty.Contents (Elt F))

/-! ## The schedule -/

/-- With duty `k` of `c`'s barrier comes row block `c` of the device `k` places after `c`. -/
def barPay (c : Dev nD) (k : Fin 8) : sProp 𝕄 := iprop(∃ f, outPts (up c k) c f)
def sendPay (c : Dev nD) (k : Fin 8) : sProp 𝕄 := castPts c (up c k) (castOf (X c))
def recvPay (c : Dev nD) (k : Fin 8) : sProp 𝕄 := outPts c (dn c k) (outOf X c)
def locPay (c : Dev nD) : sProp 𝕄 := iprop(outPts c c (outOf X c) ∗ castPts c c (castOf (X c)))

/-- The transfer counters in use: sends 1 … 7, receives 1 … 7, the local one. -/
abbrev Used (q : DmaSem sig) : Prop := (3 ≤ q.val ∧ q.val ≤ 9) ∨ 11 ≤ q.val

/-- A barrier's duties are the seven shifts, a transfer counter in use has one duty, any other cell none. -/
def dutiesOf (s : SemLoc sig) : Finset (Fin 8) :=
  match s with
  | .reg _ => pend 0
  | .dma q => if Used q then {0} else ∅
def amountOf (s : SemLoc sig) : ℕ := match s with | .reg _ => 1 | .dma _ => N
def payloadOf (c : Dev nD) (s : SemLoc sig) (d : Fin 8) : sProp 𝕄 :=
  match s with
  | .reg _ => barPay c d
  | .dma q => if h : q.val < 10 then sendPay X c ⟨q.val - 2, by omega⟩
      else if h' : q.val < 18 then recvPay X c ⟨q.val - 10, by omega⟩ else locPay X c

def Rd : Rounds.Schedule (GSem nD τ sig) (Fin 8) 𝕄 where
  duties g r := if r = 0 ∧ g.1.2 = .tc then dutiesOf g.2 else ∅
  unitless _ := False
  amount g _ _ := amountOf g.2
  payload g _ d := payloadOf X g.1.1 g.2 d
  amount_pos g _ _ _ := by
    unfold amountOf; split
    · exact Nat.one_pos
    · exact N_pos

instance Rd_payload_storable (g : GSem nD τ sig) (r : ℕ) (d : Fin 8) : BI.Storable (upEmb : UEmb _ 𝕄) ((Rd (F := F) X).payload g r d) := by
  show BI.Storable upEmb (payloadOf X g.1.1 g.2 d)
  unfold payloadOf barPay sendPay recvPay locPay
  (repeat' split) <;> infer_instance

section Tables
variable (c : Dev nD) (k : Fin 8)

theorem used_send : ∀ k ∈ pend 0, Used (sendS k) := by decide
theorem used_recv : ∀ k ∈ pend 0, Used (recvS k) := by decide
theorem used_loc : Used locS := by decide

omit [FloatOps F] in
theorem duties_bar : (Rd (F := F) X).duties (barCell c) 0 = pend 0 := by
  dsimp only [Rd]; exact if_pos ⟨rfl, rfl⟩
omit [FloatOps F] in
theorem duties_dma (q : DmaSem sig) (h : Used q) : (Rd (F := F) X).duties ((c : Thread nD τ), .dma q) 0 = {0} := by
  dsimp only [Rd]; exact (if_pos ⟨rfl, rfl⟩).trans (if_pos h)
omit [FloatOps F] in
/-- No cell has a duty after round 0, -/
theorem duties_later (g : GSem nD τ sig) : ∀ r, 1 ≤ r → (Rd (F := F) X).duties g r = ∅ :=
  fun r hr => if_neg fun h => by omega
omit [FloatOps F] in
/-- and an unused one has none at all. -/
theorem duties_unused (q : DmaSem sig) (h : ¬ Used q) : ∀ r, 0 ≤ r → (Rd (F := F) X).duties ((c : Thread nD τ), .dma q) r = ∅ := by
  intro r _
  show (if r = 0 ∧ _ then (if Used q then _ else ∅) else ∅) = _
  rw [if_neg h]; exact ite_self _

omit [FloatOps F] in
theorem amount_bar (d : Fin 8) : (Rd (F := F) X).amount (barCell c) 0 d = 1 := rfl
omit [FloatOps F] in
theorem amount_dma (q : DmaSem sig) (d : Fin 8) : (Rd (F := F) X).amount ((c : Thread nD τ), .dma q) 0 d = N := rfl

omit [FloatOps F] in
theorem expect_bar : (Rd (F := F) X).expect (barCell c) 0 = 7 := by
  unfold Schedule.expect Schedule.amountOf
  rw [duties_bar, Finset.sum_congr rfl fun d _ => amount_bar X c d]; decide
omit [FloatOps F] in
theorem expect_dma (q : DmaSem sig) (h : Used q) : (Rd (F := F) X).expect ((c : Thread nD τ), .dma q) 0 = N := by
  unfold Schedule.expect Schedule.amountOf; rw [duties_dma X c q h, Finset.sum_singleton, amount_dma]

omit [FloatOps F] in
theorem payload_bar (d : Fin 8) : (Rd (F := F) X).payload (barCell c) 0 d = barPay c d := rfl
omit [FloatOps F] in
theorem payload_send (d : Fin 8) : (Rd (F := F) X).payload (sendCell c k) 0 d = sendPay X c k := by
  dsimp only [Rd, payloadOf]
  refine (dif_pos (show 2 + k.val < 10 by have := k.isLt; omega)).trans ?_
  exact congrArg (sendPay X c) (Fin.ext (show 2 + k.val - 2 = k.val by omega))
omit [FloatOps F] in
theorem payload_recv (d : Fin 8) : (Rd (F := F) X).payload (recvCell c k) 0 d = recvPay X c k := by
  dsimp only [Rd, payloadOf]
  refine (dif_neg (show ¬ (10 + k.val < 10) by omega)).trans ((dif_pos (show 10 + k.val < 18 by have := k.isLt; omega)).trans ?_)
  exact congrArg (recvPay X c) (Fin.ext (show 10 + k.val - 10 = k.val by omega))
omit [FloatOps F] in
theorem payload_loc (d : Fin 8) : (Rd (F := F) X).payload (locCell c) 0 d = locPay X c := rfl

omit [FloatOps F] in
/-- What a transfer counter's wait brings: its one duty's payload. -/
theorem rest_dma (q : DmaSem sig) (h : Used q) :
    bigSep ((Rd (F := F) X).duties ((c : Thread nD τ), .dma q) 0 \ ∅) (fun d => (Rd (F := F) X).payload ((c : Thread nD τ), .dma q) 0 d)
      = (Rd (F := F) X).payload ((c : Thread nD τ), .dma q) 0 0 := by
  rw [Finset.sdiff_empty, duties_dma X c q h, bigSep_singleton]
omit [FloatOps F] in
/-- What the barrier's wait brings: row block `c` of each of the seven others. -/
theorem rest_bar :
    bigSep ((Rd (F := F) X).duties (barCell c) 0 \ ∅) (fun d => (Rd (F := F) X).payload (barCell c) 0 d)
      = bigSep (pend 0) fun k => iprop(∃ f, outPts (up c k) c f) := by
  rw [Finset.sdiff_empty, duties_bar]; rfl

end Tables

/-! ## What is owed, and the levels -/

/-- The units device `c` still owes the barriers after its signal of shift `n`, -/
def OB (c : Dev nD) (n : Fin 8) : CellTallies nD τ sig Unit := ∑ k ∈ pend n, tallyAt (barCell (up c k)) () 1
/-- the credits it still owes the receive counters after its transfer of shift `n`, -/
def OR (c : Dev nD) (n : Fin 8) : CellTallies nD τ sig Unit := ∑ k ∈ pend n, tallyAt (recvCell (up c k) k) () N
/-- and what it owes at the start. -/
def O₀ (c : Dev nD) : CellTallies nD τ sig Unit := OR c 0 + OB c 0

theorem OB_next (c : Dev nD) {k k' : Fin 8} (h : Next k k') : OB c k = OB c k' + tallyAt (barCell (up c k')) () 1 := by
  unfold OB; rw [(pend_next h).1, Finset.sum_insert (pend_next h).2, add_comm]
theorem OR_next (c : Dev nD) {k k' : Fin 8} (h : Next k k') : OR c k = OR c k' + tallyAt (recvCell (up c k') k') () N := by
  unfold OR; rw [(pend_next h).1, Finset.sum_insert (pend_next h).2, add_comm]
theorem OB_last (c : Dev nD) : OB c 7 = 0 := by unfold OB; rw [pend_last, Finset.sum_empty]
theorem OR_last (c : Dev nD) : OR c 7 = 0 := by unfold OR; rw [pend_last, Finset.sum_empty]

theorem OB_apply (c : Dev nD) (n : Fin 8) (g : GSem nD τ sig) :
    OB c n g () = ∑ k ∈ pend n, if g = barCell (up c k) then 1 else 0 := by
  unfold OB; rw [Finset.sum_apply, Finsupp.finset_sum_apply]
  exact Finset.sum_congr rfl fun k _ => by rw [tallyAt_apply]; exact if_congr (and_iff_left rfl) rfl rfl
theorem OR_apply (c : Dev nD) (n : Fin 8) (g : GSem nD τ sig) :
    OR c n g () = ∑ k ∈ pend n, if g = recvCell (up c k) k then N else 0 := by
  unfold OR; rw [Finset.sum_apply, Finsupp.finset_sum_apply]
  exact Finset.sum_congr rfl fun k _ => by rw [tallyAt_apply]; exact if_congr (and_iff_left rfl) rfl rfl

theorem OB_pos {c : Dev nD} {n : Fin 8} {g : GSem nD τ sig} (h : 0 < OB c n g ()) : ∃ d : Dev nD, g = barCell d := by
  rw [OB_apply] at h
  obtain ⟨k, -, hk⟩ := Finset.exists_ne_zero_of_sum_ne_zero h.ne'
  by_contra hn
  exact hk (if_neg fun e => hn ⟨_, e⟩)
theorem OR_pos {c : Dev nD} {n : Fin 8} {g : GSem nD τ sig} (h : 0 < OR c n g ()) : ∃ (d : Dev nD) (k : Fin 8), g = recvCell d k := by
  rw [OR_apply] at h
  obtain ⟨k, -, hk⟩ := Finset.exists_ne_zero_of_sum_ne_zero h.ne'
  by_contra hn
  exact hk (if_neg fun e => hn ⟨_, _, e⟩)

def L (g : GSem nD τ sig) : Finset Unit := if g.1.2 = .tc then {()} else ∅
/-- Barriers at 1, transfer counters from the first receive on at 2, the rest (the pipeline's own and the sends) at 0. -/
def lv (g : GSem nD τ sig) (_ : Unit) : ℕ := match g.2 with | .reg _ => 1 | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (d : Dev nD) (k : Fin 8) : lv (recvCell d k) () = 2 := if_pos (show 10 ≤ 10 + k.val by omega)

omit [FloatOps F] in
/-- A wait on one of the pipeline's own counters is below everything owed. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · have key : ∀ g u, 0 < O₀ c g u → (∃ d, g = barCell d) ∨ ∃ d k, g = recvCell d k := by
      intro g u hg
      unfold O₀ at hg
      rw [Pi.add_apply, Finsupp.add_apply] at hg
      rcases Nat.eq_zero_or_pos (OR c 0 g u) with h0 | h0
      · rw [h0, Nat.zero_add] at hg; exact .inl (OB_pos hg)
      · exact .inr (OR_pos h0)
    refine MayOwe.of_cut (L := L) (lev := lv) 0 (fun p hp => by rw [Finset.mem_singleton.mp hp, L_tc]; exact Finset.mem_singleton_self _)
      (fun g u hg => by rcases key g u hg with ⟨d, rfl⟩ | ⟨d, k, rfl⟩ <;> exact Finset.mem_singleton_self _)
      (fun p hp => by rw [Finset.mem_singleton.mp hp]; exact (if_neg (by omega)).le)
      (fun g u hg => by
        rcases key g u hg with ⟨d, rfl⟩ | ⟨d, k, rfl⟩
        · exact Nat.one_pos
        · rw [lv_recv]; decide)
  · rw [MayWait_zero]; iintro -; iempintro

omit [FloatOps F] in
/-- At its barrier a device owes receive credits only, which are above. -/
theorem mayWait_bar (c : Dev nD) : (levAts L lv : sProp 𝕄) ⊢ MayWait (c : Thread nD τ) (.reg barS) () (OR c 0) :=
  MayOwe.of_cut (L := L) (lev := lv) 1 (fun p hp => by rw [Finset.mem_singleton.mp hp, L_tc]; exact Finset.mem_singleton_self _)
    (fun g u hg => by obtain ⟨d, k, rfl⟩ := OR_pos hg; exact Finset.mem_singleton_self _)
    (fun p hp => by rw [Finset.mem_singleton.mp hp]; exact le_refl 1)
    (fun g u hg => by obtain ⟨d, k, rfl⟩ := OR_pos hg; rw [lv_recv]; decide)

/-! ## What every device's body knows and holds -/

/-- Every cell of every device is governed by the schedule, under the names `K`, and has reached round 0. -/
def recs (K : Dev nD × Fin 18 → ℕ) : sProp 𝕄 :=
  iprop((bigSep Finset.univ fun cj : Dev nD × Fin 18 => cellInv ER (Rd X) (K cj) (kcell cj))
    ∗ bigSep Finset.univ fun cj : Dev nD × Fin 18 => reached ER (kcell cj) 0)

instance recs_persistent (K : Dev nD × Fin 18 → ℕ) : BI.Persistent (recs X K) := by unfold recs; infer_instance

omit [FloatOps F] in
/-- One of finitely many. -/
theorem one_of {I : Type} [Fintype I] [DecidableEq I] (Φ : I → sProp 𝕄) (i : I) : (bigSep Finset.univ Φ : sProp 𝕄) ⊢ Φ i :=
  bigSep_elim (Finset.mem_univ i)

omit [FloatOps F] in
/-- What is known of one cell. -/
theorem recs_at (K : Dev nD × Fin 18 → ℕ) (d : Dev nD) (j : Fin 18) (s : SemLoc sig) (h : csem j = s) :
    recs X K ⊢ iprop(cellInv ER (Rd X) (K (d, j)) ((d : Thread nD τ), s) ∗ reached ER ((d : Thread nD τ), s) 0) := by
  subst h
  unfold recs
  iintro ⟨HI, HR⟩
  isplitl [HI]
  · iapply (one_of (fun cj : Dev nD × Fin 18 => (cellInv ER (Rd X) (K cj) (kcell cj) : sProp 𝕄)) (d, j)); iexact HI
  · iapply (one_of (fun cj : Dev nD × Fin 18 => (reached ER (kcell cj) 0 : sProp 𝕄)) (d, j)); iexact HR

/-- The tokens of the duties device `c` pays: at each other device its barrier unit and its receive credit, and its own
    send and local counters. -/
def payToks (c : Dev nD) : sProp 𝕄 :=
  iprop((bigSep (pend 0) fun k => dutyTok ER (barCell (up c k)) 0 (neg k)) ∗ (bigSep (pend 0) fun k => dutyTok ER (recvCell (up c k) k) 0 0)
    ∗ (bigSep (pend 0) fun k => dutyTok ER (sendCell c k) 0 0) ∗ dutyTok ER (locCell c) 0 0)

/-- Device `c`'s ghost state at the start: what is known of all cells, its positions at its own, and its tokens. -/
def ghost (K : Dev nD × Fin 18 → ℕ) (c : Dev nD) : sProp 𝕄 :=
  iprop(recs X K ∗ (bigSep Finset.univ fun j : Fin 18 => atPos ER (kcell (c, j)) 0 ∅ 0) ∗ payToks c)

/-- The same with the credits of what the others owe it and the levels. -/
def start (c : Dev nD) : sProp 𝕄 :=
  iprop((∃ K, ghost X K c) ∗ cred (tallyAt (barCell c) () 7) ∗ (bigSep (pend 0) fun k => cred (tallyAt (recvCell c k) () N)) ∗ levAts L lv)

end Cert.Exchange

end
-- ==== Proof.Steps.lean ====
/-
# The kernel's steps, each for any shift

One rule per kind of effect of the kernel — a signal, the copy of one slab into the scratch, the barrier's wait, a
transfer, the local copy and its wait, a wait on a receive and on a send counter — from the state after shift `k` to the
state after the next. The places where the program prints an offset, a device or a semaphore are variables with an
equation, so each rule is stated once for all seven shifts.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → (cc0_stg0_0 : Ref sig .tc).ty.Contents (Elt F)) (K : Dev nD × Fin 18 → ℕ) (c : Dev nD)

/-- Device `c` owes `O`, whatever it has waited on so far. -/
def owing (O : CellTallies nD τ sig Unit) : sProp 𝕄 := iprop(∃ W : Waits sig Unit, owes (c : Thread nD τ) O W)

/-! ## The signals -/

/-- Before the signal after shift `n`: the units and credits still owed, the tokens of the units to come, and the row blocks
    of the own result still to be handed over. -/
def sigSt (f : (cc0_stg1_0 : Ref sig .tc).ty.Contents (Elt F)) (n : Fin 8) : sProp 𝕄 :=
  iprop(owing (F := F) c (OR c 0 + OB c n) ∗ (bigSep (pend n) fun k => dutyTok ER (barCell (up c k)) 0 (neg k))
    ∗ bigSep (pend n) fun k => outPts c (up c k) f)

theorem up_up_neg (c : Dev nD) (k : Fin 8) : up (up c k) (neg k) = c := by revert c k; decide
theorem neg_mem : ∀ {k : Fin 8}, k ∈ pend 0 → neg k ∈ pend 0 := by decide

theorem step_signal {k k' : Fin 8} (h : Next k k') {n : Dev nD} (hn : n = up c k') (f : (cc0_stg1_0 : Ref sig .tc).ty.Contents (Elt F))
    {w : BitVec 32} (hw : w = 1#32)
    {α : Type} {Q : α → sProp 𝕄} {p : PUnit → Prog (TpuEff nD τ sig (Elt F) Λ₀ .tc) α} :
    iprop(recs X K ∗ sigSt c f k)
      ⊢ iprop((sigSt c f k' -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (n : Thread nD τ) barS w.toInt) p) Q) := by
  subst hn hw
  unfold sigSt owing
  rw [sep_pend h, sep_pend h]
  iintro ⟨#HR, ⟨%W, HO⟩, ⟨Htok, Htoks⟩, Hout, Houts⟩ Hk
  ihave #Hc := (recs_at X K (up c k') jBar _ csem_bar) $$ HR
  icases Hc with ⟨#HI, #Hr⟩
  iapply (Rounds.wp_signal 𝒱₀ ER (Rd X) (c : Thread nD τ) none (dst := (up c k' : Thread nD τ)) (κ := K (up c k', jBar))
      (d := neg k') (by rw [duties_bar]; exact neg_mem (next_mem h)) ((amount_bar X (up c k') (neg k')).trans (by decide)) ()
      (O₀ := OR c 0 + OB c k) (OR c 0 + OB c k') (by rw [OB_next c h, add_assoc]; rfl)) $$ [HO Htok Hout]
  · isplitr; · iexact HI
    isplitl [HO]; · iexact HO
    isplitl [Htok]; · iexact Htok
    isplitl [Hout]
    · rw [payload_bar]; unfold barPay; rw [up_up_neg]; iexists f; iexact Hout
    · iexact Hr
  iintro HO
  iapply Hk
  isplitl [HO]; · iexists W; iexact HO
  isplitl [Htoks] <;> iassumption

/-! ## The copy into the scratch -/

/-- The staged `x`. -/
def xPts (x : (cc0_stg0_0 : Ref sig .tc).ty.Contents (Elt F)) : sProp 𝕄 := ((c : Thread nD τ).loc cc0_stg0_0) ↦{fullShare} x
/-- The scratch, its first `n` slabs holding their columns of `x`. -/
def castSt (x : (cc0_stg0_0 : Ref sig .tc).ty.Contents (Elt F)) (n : ℕ) : sProp 𝕄 :=
  iprop(∃ f : (cc0_scratch0 : Ref sig .tc).ty.Contents (Elt F),
    ⌜∀ i : (cc0_scratch0 : Ref sig .tc).ty.Idx, (i 0).val < n → f i = castOf x i⌝ ∗ (((c : Thread nD τ).loc cc0_scratch0) ↦{fullShare} f))

/-- The columns of `x` are loaded. -/
theorem step_load (x : (cc0_stg0_0 : Ref sig .tc).ty.Contents (Elt F)) (j : Dev nD) {r : LoadRect S512x4096} (hr : r = (xR j).toLoadRect)
    {hl : (xM : Memref sig .tc .vmem S512x4096 .bf16).view.LoadsAt r} {α : Type} {Q : α → sProp 𝕄} {p : (r.shape.Idx → Elt F .bf16) → Prog (TpuEff nD τ sig (Elt F) Λ₀ .tc) α} :
    (xPts c x : sProp 𝕄)
      ⊢ iprop((xPts c x -∗ wp frame (wpE (defs₀ (F := F)) 𝒱₀ (c : Thread nD τ) none) Set.univ (p (hr ▸ xblk x j)) Q)
          -∗ wp frame (wpE (defs₀ (F := F)) 𝒱₀ (c : Thread nD τ) none) Set.univ (.op (.load xM r hl) p) Q) := by
  subst hr
  unfold xPts
  iintro Hx Hk
  iapply (wp_load 𝒱₀ (c : Thread nD τ) none Set.univ (m := xM) (Finset.subset_univ _)) $$ Hx
  rw [read_xblk]
  iexact Hk

/-- A load of the scratch, its value not used, changes nothing. -/
theorem step_peek (x : (cc0_stg0_0 : Ref sig .tc).ty.Contents (Elt F)) (n : ℕ) {r : LoadRect S8x512x512}
    {hl : (bM : Memref sig .tc .vmem S8x512x512 .bf16).view.LoadsAt r} {α : Type} {Q : α → sProp 𝕄} {p : Prog (TpuEff nD τ sig (Elt F) Λ₀ .tc) α} :
    (castSt c x n : sProp 𝕄)
      ⊢ iprop((castSt c x n -∗ wp frame (wpE (defs₀ (F := F)) 𝒱₀ (c : Thread nD τ) none) Set.univ p Q)
          -∗ wp frame (wpE (defs₀ (F := F)) 𝒱₀ (c : Thread nD τ) none) Set.univ (.op (.load bM r hl) fun _ => p) Q) := by
  unfold castSt
  iintro ⟨%f, %hf, Hb⟩ Hk
  iapply (wp_load 𝒱₀ (c : Thread nD τ) none Set.univ (m := bM) (Finset.subset_univ _)) $$ Hb
  iintro Hb
  iapply Hk
  iexists f
  isplitr; · ipureintro; exact hf
  iexact Hb

/-- The store of the columns of slab `j`. -/
theorem step_store (x : (cc0_stg0_0 : Ref sig .tc).ty.Contents (Elt F)) (j : Dev nD) {n n' : ℕ} (hn : n = j.val) (hn' : n' = j.val + 1) {w : (castR j).shape.Idx → Elt F .bf16} (hw : w = lift (xblk x j))
    {hx : ((bM : Memref sig .tc .vmem S8x512x512 .bf16).access (castR j)).Stores Finset.univ} {hm}
    {α : Type} {Q : α → sProp 𝕄} {p : PUnit → Prog (TpuEff nD τ sig (Elt F) Λ₀ .tc) α} :
    (castSt c x n : sProp 𝕄)
      ⊢ iprop((castSt c x n' -∗ wp frame (wpE (defs₀ (F := F)) 𝒱₀ (c : Thread nD τ) none) Set.univ (p ⟨⟩) Q)
          -∗ wp frame (wpE (defs₀ (F := F)) 𝒱₀ (c : Thread nD τ) none) Set.univ (.op (.store bM (castR j) w Finset.univ hx hm) p) Q) := by
  subst hw hn hn'
  unfold castSt
  iintro ⟨%f, %hf, Hb⟩ Hk
  iapply (wp_store 𝒱₀ (c : Thread nD τ) none Set.univ (m := bM) (r := castR j) (Mk := Finset.univ) (Finset.subset_univ _)) $$ Hb
  iintro Hb
  iapply Hk
  iexists _
  isplitr
  · ipureintro; exact fun i hi => store_eq x f j hf i hi
  iexact Hb

omit [FloatOps F] in
/-- After the eighth store the scratch is the eight slabs of `x`. -/
theorem castSt_full (x : (cc0_stg0_0 : Ref sig .tc).ty.Contents (Elt F)) :
    (castSt c x 8 : sProp 𝕄) ⊢ iprop(castPts c c (castOf x) ∗ bigSep (pend 0) fun k => castPts c (up c k) (castOf x)) := by
  unfold castSt
  iintro ⟨%f, %hf, Hb⟩
  have e : f = castOf x := funext fun i => hf i (i 0).isLt
  subst e
  ihave H := (Entails.of_eq ((cast_split c (castOf x)).trans ((bigSep_univ_equiv (upEquiv c) _).trans (sep_all _)))) $$ Hb
  icases H with ⟨H0, H⟩
  isplitl [H0]
  · rw [show upEquiv c 0 = c from up_zero c]; iexact H0
  iexact H

/-! ## The barrier's wait -/

/-- On the seven units: the row block `c` of each other device. -/
theorem step_barrier {w : BitVec 32} (hw : w = 7#32) {α : Type} {Q : α → sProp 𝕄} {p : PUnit → Prog (TpuEff nD τ sig (Elt F) Λ₀ .tc) α} :
    iprop(recs X K ∗ levAts L lv ∗ cred (tallyAt (barCell c) () 7) ∗ owing (F := F) c (OR c 0) ∗ atPos ER (barCell c) 0 ∅ 0)
      ⊢ iprop(((owing (F := F) c (OR c 0) ∗ atPos ER (barCell c) 1 ∅ 0 ∗ bigSep (pend 0) fun k => iprop(∃ f, outPts (F := F) (up c k) c f))
            -∗ wp frame (wpE (defs₀ (F := F)) 𝒱₀ (c : Thread nD τ) none) Set.univ (p ⟨⟩) Q)
          -∗ wp frame (wpE (defs₀ (F := F)) 𝒱₀ (c : Thread nD τ) none) Set.univ (.op (.semWait barS w.toInt) p) Q) := by
  subst hw
  unfold owing
  iintro ⟨#HR, #Hlev, Hc, ⟨%W, HO⟩, Hat⟩ Hk
  ihave #Hcc := (recs_at X K c jBar _ csem_bar) $$ HR
  icases Hcc with ⟨#HI, -⟩
  iapply (Rounds.wp_wait_rest_token 𝒱₀ ER (Rd X) (c : Thread nD τ) none (κ := K (c, jBar))
      (wpE_semWait_eq 𝒱₀ (c : Thread nD τ) none Set.univ) (Set.mem_univ _) () (O := OR c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  iapply Hk
  isplitl [HO]; · iexists _; iexact HO
  isplitl [Hat] <;> iassumption

/-! ## The transfers -/

/-- Before the transfer after shift `n`: the credits still owed, the tokens of the transfers to come with the slabs they
    read and the row blocks they fill, and the send credits of the transfers made. -/
def sendSt (n : Fin 8) : sProp 𝕄 :=
  iprop(owing (F := F) c (OR c n) ∗ (bigSep (pend n) fun k => dutyTok ER (recvCell (up c k) k) 0 0)
    ∗ (bigSep (pend n) fun k => dutyTok ER (sendCell c k) 0 0) ∗ (bigSep (pend n) fun k => castPts c (up c k) (castOf (X c)))
    ∗ (bigSep (pend n) fun k => iprop(∃ f, outPts (up c k) c f)) ∗ bigSep (done n) fun k => cred (tallyAt (sendCell c k) () N))

theorem step_send {k k' : Fin 8} (h : Next k k') {n : Dev nD} (hn : n = up c k')
    {src dst : Memref sig .tc .vmem S512x512 .bf16} (hs : src = castM (up c k')) (hd : dst = outM c)
    {qs qr : DmaSem sig} (hqs : qs = sendS k') (hqr : qr = recvS k')
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {p : PUnit → Prog (TpuEff nD τ sig (Elt F) Λ₀ .tc) α} :
    iprop(recs X K ∗ sendSt X c k)
      ⊢ iprop((sendSt X c k' -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) p) Q) := by
  subst hn hs hd hqs hqr
  unfold sendSt owing
  rw [sep_pend h, sep_pend h, sep_pend h, sep_pend h, sep_done h]
  iintro ⟨#HR, ⟨%W, HO⟩, ⟨HtV, HtVs⟩, ⟨HtS, HtSs⟩, ⟨Hs, Hss⟩, ⟨⟨%f, Hd⟩, Hds⟩, Hcs⟩ Hk
  ihave #Hc1 := (recs_at X K c (jSend k') _ (csem_send k')) $$ HR
  icases Hc1 with ⟨#HI1, #Hr1⟩
  ihave #Hc2 := (recs_at X K (up c k') (jRecv k') _ (csem_recv k')) $$ HR
  icases Hc2 with ⟨#HI2, #Hr2⟩
  unfold outPts castPts
  iapply (Rounds.wp_send_pointsTo 𝒱₀ ER (Rd X) (c : Thread nD τ) none (κ₁ := K (c, jSend k')) (κ₂ := K (up c k', jRecv k'))
    (r₁ := 0) (r₂ := 0) (d₁ := 0) (d₂ := 0) (fs := castOf (X c)) (fd := f) (O₀ := OR c k)
    (by rw [duties_dma X c _ (used_send k' (next_mem h))]; exact Finset.mem_singleton_self _)
    (by rw [duties_dma X (up c k') _ (used_recv k' (next_mem h))]; exact Finset.mem_singleton_self _)
    () () N (out_amount c _) (amount_dma X c _ 0) (amount_dma X (up c k') _ 0) (OR c k') (OR_next c h) (W := W)
    (by rw [payload_send]; exact BI.Entails.refl _)
    (by
      rw [payload_recv]; unfold recvPay; rw [dn_up]
      exact Entails.of_eq (landed_eq X c (up c k') f))) $$ [HO HtV HtS Hs Hd]
  · isplitr; · iexact HI1
    isplitr; · iexact HI2
    isplitl [Hs]; · iexact Hs
    isplitl [Hd]; · iexact Hd
    isplitl [HO]; · iexact HO
    isplitl [HtS]; · iexact HtS
    isplitr; · iexact Hr1
    isplitl [HtV]; · iexact HtV
    iexact Hr2
  iintro ⟨Hc, HO⟩
  iapply Hk
  isplitl [HO]; · iexists W; iexact HO
  isplitl [HtVs]; · iexact HtVs
  isplitl [HtSs]; · iexact HtSs
  isplitl [Hss]; · iexact Hss
  isplitl [Hds]; · iexact Hds
  isplitl [Hc] <;> iassumption

/-! ## The local copy -/

/-- The own slab is copied into the own rows. -/
theorem step_copy (f : (cc0_stg1_0 : Ref sig .tc).ty.Contents (Elt F))
    {src dst : Memref sig .tc .vmem S512x512 .bf16} (hs : src = castM c) (hd : dst = outM c) {q : DmaSem sig} (hq : q = locS)
    {hsrc : src.view.WordExact} {hdst : dst.view.WordExact} {hsem : DmaTarget.Typed .vmem (.dma q) (.here dst : DmaTarget nD τ sig .tc .vmem S512x512 .bf16)}
    {α : Type} {Q : α → sProp 𝕄} {p : PUnit → Prog (TpuEff nD τ sig (Elt F) Λ₀ .tc) α} :
    iprop(recs X K ∗ castPts c c (castOf (X c)) ∗ outPts c c f ∗ dutyTok ER (locCell c) 0 0)
      ⊢ iprop((cred (tallyAt (locCell c) () N) -∗ wp frame (wpE (defs₀ (F := F)) 𝒱₀ (c : Thread nD τ) none) Set.univ (p ⟨⟩) Q)
          -∗ wp frame (wpE (defs₀ (F := F)) 𝒱₀ (c : Thread nD τ) none) Set.univ (.op (.enqueueDma src (.here dst) (.dma q) hsrc hdst hsem) p) Q) := by
  subst hs hd hq
  iintro ⟨#HR, Hs, Hd, Ht⟩ Hk
  ihave #Hc := (recs_at X K c jLoc _ csem_loc) $$ HR
  icases Hc with ⟨#HI, #Hr⟩
  unfold outPts castPts
  iapply (Rounds.wp_copy_pointsTo 𝒱₀ ER (Rd X) (c : Thread nD τ) none (κ := K (c, jLoc)) (r := 0) (d := 0) (fd := f) (fs := castOf (X c))
    (by rw [duties_dma X c _ used_loc]; exact Finset.mem_singleton_self _) () N (out_amount c _) (amount_dma X c _ 0)
    (by
      rw [payload_loc]; unfold locPay
      exact sep_mono_left (Entails.of_eq (landed_eq X c c f)))) $$ [Hs Hd Ht]
  · isplitr; · iexact HI
    isplitl [Hs]; · iexact Hs
    isplitl [Hd]; · iexact Hd
    isplitl [Ht]; · iexact Ht
    iexact Hr
  iexact Hk

/-! ## The waits on the transfers -/

/-- A wait on a transfer counter in use, nothing being owed: the counter's round passes and its payload comes. -/
theorem step_wait (q : DmaSem sig) (hq : Used q) (j : Fin 18) (hj : csem j = .dma q) {q' : DmaSem sig} (hq' : q' = q)
    {src dst : Memref sig .tc .vmem S512x512 .bf16} (hN : dst.view.dmaCredit = N) {hsrc : src.view.WordExact} {hdst : dst.view.WordExact}
    {α : Type} {Q : α → sProp 𝕄} {p : PUnit → Prog (TpuEff nD τ sig (Elt F) Λ₀ .tc) α} :
    iprop(recs X K ∗ cred (tallyAt ((c : Thread nD τ), .dma q) () N) ∗ owing (F := F) c 0 ∗ atPos ER ((c : Thread nD τ), .dma q) 0 ∅ 0)
      ⊢ iprop(((owing (F := F) c 0 ∗ atPos ER ((c : Thread nD τ), .dma q) 1 ∅ 0 ∗ (Rd X).payload ((c : Thread nD τ), .dma q) 0 0)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q' src dst hsrc hdst) p) Q) := by
  subst hq'
  unfold owing
  iintro ⟨#HR, Hc, ⟨%W, HO⟩, Hat⟩ Hk
  ihave #Hcc := (recs_at X K c j _ hj) $$ HR
  icases Hcc with ⟨#HI, -⟩
  iapply (Rounds.wp_wait_rest_token 𝒱₀ ER (Rd X) (c : Thread nD τ) none (κ := K (c, j)) (k' := dst.view.dmaCredit)
      (wpE_waitDma2_eq 𝒱₀ (c : Thread nD τ) none Set.univ) (Set.mem_univ _) () (O := 0) (W := W) (R := 0) (m := 0) (T := ∅)
      (by rw [expect_dma X c _ hq, hN, Nat.zero_add])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_dma X c _ hq)) $$ Hpay
  iapply Hk
  isplitl [HO]; · iexists _; iexact HO
  isplitl [Hat] <;> iassumption

/-- Before the wait on the receive counter after shift `n`: the credits and positions of those to come, the closed rounds
    of those passed and the row blocks they brought. -/
def recvSt (n : Fin 8) : sProp 𝕄 :=
  iprop(owing (F := F) c 0 ∗ (bigSep (pend n) fun k => cred (tallyAt (recvCell c k) () N)) ∗ (bigSep (pend n) fun k => atPos ER (recvCell c k) 0 ∅ 0)
    ∗ (bigSep (done n) fun k => atPos ER (recvCell c k) 1 ∅ 0) ∗ bigSep (done n) fun k => outPts c (dn c k) (outOf X c))

theorem step_recv {k k' : Fin 8} (h : Next k k') {q : DmaSem sig} (hq : q = recvS k') {src dst : Memref sig .tc .vmem S512x512 .bf16}
    (hN : dst.view.dmaCredit = N) {hsrc : src.view.WordExact} {hdst : dst.view.WordExact} {α : Type} {Q : α → sProp 𝕄} {p : PUnit → Prog (TpuEff nD τ sig (Elt F) Λ₀ .tc) α} :
    iprop(recs X K ∗ recvSt X c k)
      ⊢ iprop((recvSt X c k' -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q src dst hsrc hdst) p) Q) := by
  unfold recvSt
  rw [sep_pend h, sep_pend h, sep_done h, sep_done h]
  iintro ⟨#HR, HO, ⟨Hc, Hcs⟩, ⟨Hat, Hats⟩, Hd1, Hd2⟩ Hk
  iapply (step_wait X K c (recvS k') (used_recv k' (next_mem h)) (jRecv k') (csem_recv k') hq hN) $$ [HO Hc Hat]
  · isplitr; · iexact HR
    isplitl [Hc]; · iexact Hc
    isplitl [HO] <;> iassumption
  iintro ⟨HO, Hat, Hp⟩
  ihave Hp' := (Entails.of_eq (show _ = outPts c (dn c k') (outOf X c) from payload_recv X c k' 0)) $$ Hp
  iapply Hk
  isplitl [HO]; · iexact HO
  isplitl [Hcs]; · iexact Hcs
  isplitl [Hats]; · iexact Hats
  isplitl [Hat Hd1]
  · isplitl [Hat] <;> iassumption
  isplitl [Hp']; · iexact Hp'
  iexact Hd2

/-- Before the wait on the send counter after shift `n`, likewise, the slabs coming back. -/
def backSt (n : Fin 8) : sProp 𝕄 :=
  iprop(owing (F := F) c 0 ∗ (bigSep (pend n) fun k => cred (tallyAt (sendCell c k) () N)) ∗ (bigSep (pend n) fun k => atPos ER (sendCell c k) 0 ∅ 0)
    ∗ (bigSep (done n) fun k => atPos ER (sendCell c k) 1 ∅ 0) ∗ bigSep (done n) fun k => castPts c (up c k) (castOf (X c)))

theorem step_back {k k' : Fin 8} (h : Next k k') {q : DmaSem sig} (hq : q = sendS k') {src dst : Memref sig .tc .vmem S512x512 .bf16}
    (hN : dst.view.dmaCredit = N) {hsrc : src.view.WordExact} {hdst : dst.view.WordExact} {α : Type} {Q : α → sProp 𝕄} {p : PUnit → Prog (TpuEff nD τ sig (Elt F) Λ₀ .tc) α} :
    iprop(recs X K ∗ backSt X c k)
      ⊢ iprop((backSt X c k' -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q src dst hsrc hdst) p) Q) := by
  unfold backSt
  rw [sep_pend h, sep_pend h, sep_done h, sep_done h]
  iintro ⟨#HR, HO, ⟨Hc, Hcs⟩, ⟨Hat, Hats⟩, Hd1, Hd2⟩ Hk
  iapply (step_wait X K c (sendS k') (used_send k' (next_mem h)) (jSend k') (csem_send k') hq hN) $$ [HO Hc Hat]
  · isplitr; · iexact HR
    isplitl [Hc]; · iexact Hc
    isplitl [HO] <;> iassumption
  iintro ⟨HO, Hat, Hp⟩
  ihave Hp' := (Entails.of_eq (show _ = castPts c (up c k') (castOf (X c)) from payload_send X c k' 0)) $$ Hp
  iapply Hk
  isplitl [HO]; · iexact HO
  isplitl [Hcs]; · iexact Hcs
  isplitl [Hats]; · iexact Hats
  isplitl [Hat Hd1]
  · isplitl [Hat] <;> iassumption
  isplitl [Hp']; · iexact Hp'
  iexact Hd2

end Cert.Exchange

end
-- ==== Proof.Body.lean ====
/-
# The kernel's body on one device

The body is run once, at a device `c` of which nothing is assumed, from the device's ghost state to its buffers holding the
result and all its counters closed at zero.
-/
module

public import proofs.«01_k».proof.Proof.Steps

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The printed devices -/

theorem dev1_eq : ∀ c : Dev nD, (⟨k0_dev1 c, k0_dev1_lt c⟩ : Dev nD) = up c 1 := by decide +kernel
theorem dev2_eq : ∀ c : Dev nD, (⟨k0_dev2 c, k0_dev2_lt c⟩ : Dev nD) = up c 2 := by decide +kernel
theorem dev3_eq : ∀ c : Dev nD, (⟨k0_dev3 c, k0_dev3_lt c⟩ : Dev nD) = up c 3 := by decide +kernel
theorem dev4_eq : ∀ c : Dev nD, (⟨k0_dev4 c, k0_dev4_lt c⟩ : Dev nD) = up c 4 := by decide +kernel
theorem dev5_eq : ∀ c : Dev nD, (⟨k0_dev5 c, k0_dev5_lt c⟩ : Dev nD) = up c 5 := by decide +kernel
theorem dev6_eq : ∀ c : Dev nD, (⟨k0_dev6 c, k0_dev6_lt c⟩ : Dev nD) = up c 6 := by decide +kernel
theorem dev7_eq : ∀ c : Dev nD, (⟨k0_dev7 c, k0_dev7_lt c⟩ : Dev nD) = up c 7 := by decide +kernel
theorem dev8_eq : ∀ c : Dev nD, (⟨k0_dev8 c, k0_dev8_lt c⟩ : Dev nD) = up c 1 := by decide +kernel
theorem dev9_eq : ∀ c : Dev nD, (⟨k0_dev9 c, k0_dev9_lt c⟩ : Dev nD) = up c 2 := by decide +kernel
theorem dev10_eq : ∀ c : Dev nD, (⟨k0_dev10 c, k0_dev10_lt c⟩ : Dev nD) = up c 3 := by decide +kernel
theorem dev11_eq : ∀ c : Dev nD, (⟨k0_dev11 c, k0_dev11_lt c⟩ : Dev nD) = up c 4 := by decide +kernel
theorem dev12_eq : ∀ c : Dev nD, (⟨k0_dev12 c, k0_dev12_lt c⟩ : Dev nD) = up c 5 := by decide +kernel
theorem dev13_eq : ∀ c : Dev nD, (⟨k0_dev13 c, k0_dev13_lt c⟩ : Dev nD) = up c 6 := by decide +kernel
theorem dev14_eq : ∀ c : Dev nD, (⟨k0_dev14 c, k0_dev14_lt c⟩ : Dev nD) = up c 7 := by decide +kernel

/-! ## The pipeline's proof data -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The block of rows device `c` holds at launch, as staged. -/
def xstg (c : Dev nD) : (cc0_stg0_0 : Ref sig .tc).ty.Contents (Elt F) :=
  (win0_0.blk (0 : Fin 1)).view.read (Elt F) ((s₀ m ρ).mem ((c : Thread nD τ).loc main_arg0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The scratch at some contents. -/
def scr (c : Dev nD) : sProp 𝕄 := iprop(∃ f, (((c : Thread nD τ).loc cc0_scratch0) ↦{fullShare} f))

/-- Before the body: the ghost state with its credits, and the scratch. -/
def Φ₀ (c : Dev nD) : sProp 𝕄 := iprop(start (xstg m ρ) c ∗ scr c)
/-- After it: the scratch again, and every cell of the device closed, its counter at zero. -/
def Φ₁ (c : Dev nD) : sProp 𝕄 := iprop(scr c ∗ bigSep Finset.univ fun j : Fin 18 => semVal (kcell (c, j)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outOf (xstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

omit [FloatOps F] in
theorem owns_whole_eq (c : Dev nD) (b : Ref sig .tc) (x : b.ty.Contents (Elt F)) :
    (owns (Ix := Unit) (Name := ℕ) (U := UU) (Lvl := ℕ) (c : Thread nD τ) (Memref.whole b) fullShare x : sProp 𝕄)
      = iprop(∃ f : Buf (Elt F) (((c : Dev nD) : Thread nD τ).loc b), ⌜f = x⌝ ∗ (((c : Thread nD τ).loc b) ↦{fullShare} f)) := by
  unfold owns; simp only [Memref.view_whole, View.read_whole, View.set_whole]

/-! ## Closing the cells -/

section Body

variable (K : Dev nD × Fin 18 → ℕ)

omit [FloatOps F] in
/-- A family of consequences of a persistent fact. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- A cell whose rounds are over closes, its counter at zero. -/
theorem close (X : Dev nD → (cc0_stg0_0 : Ref sig .tc).ty.Contents (Elt F)) (c : Dev nD) (j : Fin 18) (s : SemLoc sig) (hs : csem j = s) (R : ℕ)
    (hR : ∀ r, R ≤ r → (Rd X).duties ((c : Thread nD τ), s) r = ∅) :
    iprop(recs X K ∗ atPos ER ((c : Thread nD τ), s) R ∅ 0) ⊢ (|={Set.univ}=> semVal ((c : Thread nD τ), s) 0 : sProp 𝕄) := by
  iintro ⟨#HR, Hat⟩
  ihave #Hc := (recs_at X K c j s hs) $$ HR
  icases Hc with ⟨#HI, -⟩
  iapply (Rounds.cell_close ER (Rd X) (Set.mem_univ (K (c, j))) (fun h => h) (R := R) hR)
  isplitr; · iexact HI
  iexact Hat

/-- A family of cells past round 0 closes. -/
theorem close_all (X : Dev nD → (cc0_stg0_0 : Ref sig .tc).ty.Contents (Elt F)) (c : Dev nD) (S : Finset (Fin 8)) (j : Fin 8 → Fin 18) (s : Fin 8 → SemLoc sig)
    (hs : ∀ k, csem (j k) = s k) :
    iprop(recs X K ∗ bigSep S fun k => atPos ER ((c : Thread nD τ), s k) 1 ∅ 0)
      ⊢ (|={Set.univ}=> bigSep S fun k => semVal ((c : Thread nD τ), s k) 0 : sProp 𝕄) :=
  (each_with fun k _ => close K X c (j k) (s k) (hs k) 1 (duties_later X _)).trans (bigSep_fupd _ _)

/-! ## The body -/

abbrev stg (c : Dev nD) (b : Ref sig .tc) (x : b.ty.Contents (Elt F)) : sProp 𝕄 :=
  iprop(∃ f : Buf (Elt F) (((c : Dev nD) : Thread nD τ).loc b), ⌜f = x⌝ ∗ (((c : Thread nD τ).loc b) ↦{fullShare} f))

def bodyPre (c : Dev nD) : sProp 𝕄 :=
  iprop((ghost (xstg m ρ) K c ∗ cred (tallyAt (barCell c) () 7) ∗ (bigSep (pend 0) fun k => cred (tallyAt (recvCell c k) () N)) ∗ levAts L lv ∗ scr c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outOf (xstg m ρ) c))

omit [FloatOps F] in
/-- The result buffer at one contents: the own row block and the others', by the shift to their device; -/
theorem out_up (c : Dev nD) (f : (cc0_stg1_0 : Ref sig .tc).ty.Contents (Elt F)) :
    (((c : Thread nD τ).loc cc0_stg1_0) ↦{fullShare} f : sProp 𝕄) = iprop(outPts c c f ∗ bigSep (pend 0) fun k => outPts c (up c k) f) := by
  rw [out_split, bigSep_univ_equiv (upEquiv c), sep_all, show upEquiv c 0 = c from up_zero c]; rfl
omit [FloatOps F] in
/-- by the shift from it; -/
theorem out_dn (c : Dev nD) (f : (cc0_stg1_0 : Ref sig .tc).ty.Contents (Elt F)) :
    (((c : Thread nD τ).loc cc0_stg1_0) ↦{fullShare} f : sProp 𝕄) = iprop(outPts c c f ∗ bigSep (pend 0) fun k => outPts c (dn c k) f) := by
  rw [out_split, bigSep_univ_equiv (dnEquiv c), sep_all, show dnEquiv c 0 = c from dn_zero c]; rfl
omit [FloatOps F] in
/-- and the scratch. -/
theorem cast_up (c : Dev nD) (f : (cc0_scratch0 : Ref sig .tc).ty.Contents (Elt F)) :
    (((c : Thread nD τ).loc cc0_scratch0) ↦{fullShare} f : sProp 𝕄) = iprop(castPts c c f ∗ bigSep (pend 0) fun k => castPts c (up c k) f) := by
  rw [cast_split, bigSep_univ_equiv (upEquiv c), sep_all, show upEquiv c 0 = c from up_zero c]; rfl

set_option maxHeartbeats 1600000 in
/-- The body, from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3) Kt := by
  rw [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  unfold bodyPre ghost payToks scr
  iintro ⟨⟨⟨⟨#HR, Hat, HtB, HtV, HtS, HtL⟩, HcB, HcV, #Hlev, ⟨%b0, Hb⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  clear hg0 hg1
  generalize hX : xstg m ρ = X
  ihave Hat := (Entails.of_eq (cells_eq fun s => (atPos ER ((c : Thread nD τ), s) 0 ∅ 0 : sProp 𝕄))) $$ Hat
  icases Hat with ⟨⟨HaS0, HaS⟩, ⟨HaV0, HaV⟩, HaL, HaB⟩
  ihave Hout := (Entails.of_eq (out_up c g1)) $$ Hout
  icases Hout with ⟨Ho0, Hos⟩
  ihave HS : sigSt c g1 0 $$ [Ho HtB Hos]
  · unfold Dat.owesAt Pipeline.owesWithin sigSt owing
    icases Ho with ⟨%W, -, HO⟩
    isplitl [HO]; · iexists W; iexact HO
    isplitl [HtB] <;> iassumption
  iapply (step_signal X K c (k := 0) (k' := 1) (by decide) (dev1_eq c) g1 rfl) $$ [HS]; · isplitr <;> iassumption
  iintro HS
  iapply (step_signal X K c (k := 1) (k' := 2) (by decide) (dev2_eq c) g1 rfl) $$ [HS]; · isplitr <;> iassumption
  iintro HS
  simp only [k0_part2_eq_skeleton]; unfold k0_part2_skel
  simp only [semSignalWord, semWaitWord, Prog.lift, Prog.bind_op, Prog.bind_ret, Prog.pure_eq_ret]
  iapply (step_signal X K c (k := 2) (k' := 3) (by decide) (dev3_eq c) g1 rfl) $$ [HS]; · isplitr <;> iassumption
  iintro HS
  iapply (step_signal X K c (k := 3) (k' := 4) (by decide) (dev4_eq c) g1 rfl) $$ [HS]; · isplitr <;> iassumption
  iintro HS
  simp only [k0_part3_eq_skeleton]; unfold k0_part3_skel
  simp only [semSignalWord, semWaitWord, Prog.lift, Prog.bind_op, Prog.bind_ret, Prog.pure_eq_ret]
  iapply (step_signal X K c (k := 4) (k' := 5) (by decide) (dev5_eq c) g1 rfl) $$ [HS]; · isplitr <;> iassumption
  iintro HS
  iapply (step_signal X K c (k := 5) (k' := 6) (by decide) (dev6_eq c) g1 rfl) $$ [HS]; · isplitr <;> iassumption
  iintro HS
  iapply (step_signal X K c (k := 6) (k' := 7) (by decide) (dev7_eq c) g1 rfl) $$ [HS]; · isplitr <;> iassumption
  iintro HS
  ihave Hx := (Entails.of_eq (show (((c : Thread nD τ).loc cc0_stg0_0) ↦{fullShare} X c : sProp 𝕄) = xPts c (X c) from rfl)) $$ Hx
  ihave Hb : castSt c (X c) 0 $$ [Hb]
  · unfold castSt; iexists b0; isplitr; · ipureintro; exact fun _ h => absurd h (Nat.not_lt_zero _)
    iexact Hb
  iapply (step_load c (X c) 0 rfl) $$ Hx; iintro Hx
  simp only [k0_part4_eq_skeleton]; unfold k0_part4_skel
  simp only [semSignalWord, semWaitWord, Prog.lift, Prog.bind_op, Prog.bind_ret, Prog.pure_eq_ret]
  iapply (step_peek c (X c) 0) $$ Hb; iintro Hb
  iapply (step_store c (X c) 0 (n := 0) (n' := 1) rfl rfl rfl) $$ Hb; iintro Hb
  iapply (step_load c (X c) 1 rfl) $$ Hx; iintro Hx
  iapply (step_peek c (X c) 1) $$ Hb; iintro Hb
  iapply (step_store c (X c) 1 (n := 1) (n' := 2) rfl rfl rfl) $$ Hb; iintro Hb
  iapply (step_load c (X c) 2 rfl) $$ Hx; iintro Hx
  iapply (step_peek c (X c) 2) $$ Hb; iintro Hb
  iapply (step_store c (X c) 2 (n := 2) (n' := 3) rfl rfl rfl) $$ Hb; iintro Hb
  iapply (step_load c (X c) 3 rfl) $$ Hx; iintro Hx
  iapply (step_peek c (X c) 3) $$ Hb; iintro Hb
  iapply (step_store c (X c) 3 (n := 3) (n' := 4) rfl rfl rfl) $$ Hb; iintro Hb
  iapply (step_load c (X c) 4 rfl) $$ Hx; iintro Hx
  iapply (step_peek c (X c) 4) $$ Hb; iintro Hb
  iapply (step_store c (X c) 4 (n := 4) (n' := 5) rfl rfl rfl) $$ Hb; iintro Hb
  iapply (step_load c (X c) 5 rfl) $$ Hx; iintro Hx
  simp only [k0_part5_eq_skeleton]; unfold k0_part5_skel
  simp only [semSignalWord, semWaitWord, Prog.lift, Prog.bind_op, Prog.bind_ret, Prog.pure_eq_ret]
  iapply (step_peek c (X c) 5) $$ Hb; iintro Hb
  iapply (step_store c (X c) 5 (n := 5) (n' := 6) rfl rfl rfl) $$ Hb; iintro Hb
  iapply (step_load c (X c) 6 rfl) $$ Hx; iintro Hx
  iapply (step_peek c (X c) 6) $$ Hb; iintro Hb
  iapply (step_store c (X c) 6 (n := 6) (n' := 7) rfl rfl rfl) $$ Hb; iintro Hb
  iapply (step_load c (X c) 7 rfl) $$ Hx; iintro Hx
  iapply (step_peek c (X c) 7) $$ Hb; iintro Hb
  iapply (step_store c (X c) 7 (n := 7) (n' := 8) rfl rfl rfl) $$ Hb; iintro Hb
  ihave Hb := (castSt_full c (X c)) $$ Hb
  icases Hb with ⟨Hb0, Hbs⟩
  unfold sigSt
  icases HS with ⟨HO, -, -⟩
  rw [OB_last, add_zero]
  iapply (step_barrier X K c rfl) $$ [HO HcB HaB]
  · isplitr; · iexact HR
    isplitr; · iexact Hlev
    isplitl [HcB]; · iexact HcB
    isplitl [HO] <;> iassumption
  iintro ⟨HO, HaB, Hr⟩
  ihave HS : sendSt X c 0 $$ [HO HtV HtS Hbs Hr]
  · unfold sendSt; rw [done_zero, bigSep_empty]
    isplitl [HO]; · iexact HO
    isplitl [HtV]; · iexact HtV
    isplitl [HtS]; · iexact HtS
    isplitl [Hbs]; · iexact Hbs
    isplitl [Hr]; · iexact Hr
    iempintro
  simp only [k0_part6_eq_skeleton]; unfold k0_part6_skel
  simp only [semSignalWord, semWaitWord, Prog.lift, Prog.bind_op, Prog.bind_ret, Prog.pure_eq_ret]
  iapply (step_send X K c (k := 0) (k' := 1) (by decide) (dev8_eq c) (castM_of (up c 1) (off2_eq c 0) _ _) (outM_of c (k0_off1_eq c) _ _) rfl rfl) $$ [HS]
  · isplitr <;> iassumption
  iintro HS
  simp only [k0_part7_eq_skeleton]; unfold k0_part7_skel
  simp only [semSignalWord, semWaitWord, Prog.lift, Prog.bind_op, Prog.bind_ret, Prog.pure_eq_ret]
  iapply (step_send X K c (k := 1) (k' := 2) (by decide) (dev9_eq c) (castM_of (up c 2) (off2_eq c 1) _ _) (outM_of c (k0_off1_eq c) _ _) rfl rfl) $$ [HS]
  · isplitr <;> iassumption
  iintro HS
  simp only [k0_part8_eq_skeleton]; unfold k0_part8_skel
  simp only [semSignalWord, semWaitWord, Prog.lift, Prog.bind_op, Prog.bind_ret, Prog.pure_eq_ret]
  iapply (step_send X K c (k := 2) (k' := 3) (by decide) (dev10_eq c) (castM_of (up c 3) (off2_eq c 2) _ _) (outM_of c (k0_off1_eq c) _ _) rfl rfl) $$ [HS]
  · isplitr <;> iassumption
  iintro HS
  simp only [k0_part9_eq_skeleton]; unfold k0_part9_skel
  simp only [semSignalWord, semWaitWord, Prog.lift, Prog.bind_op, Prog.bind_ret, Prog.pure_eq_ret]
  iapply (step_send X K c (k := 3) (k' := 4) (by decide) (dev11_eq c) (castM_of (up c 4) (off2_eq c 3) _ _) (outM_of c (k0_off1_eq c) _ _) rfl rfl) $$ [HS]
  · isplitr <;> iassumption
  iintro HS
  simp only [k0_part10_eq_skeleton]; unfold k0_part10_skel
  simp only [semSignalWord, semWaitWord, Prog.lift, Prog.bind_op, Prog.bind_ret, Prog.pure_eq_ret]
  iapply (step_send X K c (k := 4) (k' := 5) (by decide) (dev12_eq c) (castM_of (up c 5) (off2_eq c 4) _ _) (outM_of c (k0_off1_eq c) _ _) rfl rfl) $$ [HS]
  · isplitr <;> iassumption
  iintro HS
  simp only [k0_part11_eq_skeleton]; unfold k0_part11_skel
  simp only [semSignalWord, semWaitWord, Prog.lift, Prog.bind_op, Prog.bind_ret, Prog.pure_eq_ret]
  iapply (step_send X K c (k := 5) (k' := 6) (by decide) (dev13_eq c) (castM_of (up c 6) (off2_eq c 5) _ _) (outM_of c (k0_off1_eq c) _ _) rfl rfl) $$ [HS]
  · isplitr <;> iassumption
  iintro HS
  simp only [k0_part12_eq_skeleton]; unfold k0_part12_skel
  simp only [semSignalWord, semWaitWord, Prog.lift, Prog.bind_op, Prog.bind_ret, Prog.pure_eq_ret]
  iapply (step_send X K c (k := 6) (k' := 7) (by decide) (dev14_eq c) (castM_of (up c 7) (off2_eq c 6) _ _) (outM_of c (k0_off1_eq c) _ _) rfl rfl) $$ [HS]
  · isplitr <;> iassumption
  iintro HS
  unfold sendSt
  icases HS with ⟨HO, -, -, -, -, HcS⟩
  rw [OR_last]
  iapply (step_copy X K c g1 (castM_of c (k0_off3_eq c) _ _) (outM_of c (k0_off1_eq c) _ _) rfl) $$ [Hb0 Ho0 HtL]
  · isplitr; · iexact HR
    isplitl [Hb0]; · iexact Hb0
    isplitl [Ho0] <;> iassumption
  iintro HcL
  iapply (step_wait X K c locS used_loc jLoc csem_loc rfl (credit_out (outM_of c (k0_off1_eq c) _ _))) $$ [HcL HO HaL]
  · isplitr; · iexact HR
    isplitl [HcL]; · iexact HcL
    isplitl [HO] <;> iassumption
  iintro ⟨HO, HaL, Hp⟩
  ihave Hp := (Entails.of_eq (show _ = iprop(outPts c c (outOf X c) ∗ castPts c c (castOf (X c))) from payload_loc X c 0)) $$ Hp
  icases Hp with ⟨Ho0, Hb0⟩
  ihave HS : recvSt X c 0 $$ [HO HcV HaV]
  · unfold recvSt; rw [done_zero, bigSep_empty, bigSep_empty]
    isplitl [HO]; · iexact HO
    isplitl [HcV]; · iexact HcV
    isplitl [HaV]; · iexact HaV
    isplitr <;> iempintro
  iapply (step_recv X K c (k := 0) (k' := 1) (by decide) rfl (credit_out (outM_of (dn c 1) (off4_eq c 0) _ _))) $$ [HS]; · isplitr <;> iassumption
  iintro HS
  simp only [k0_part13_eq_skeleton]; unfold k0_part13_skel
  simp only [semSignalWord, semWaitWord, Prog.lift, Prog.bind_op, Prog.bind_ret, Prog.pure_eq_ret]
  iapply (step_recv X K c (k := 1) (k' := 2) (by decide) rfl (credit_out (outM_of (dn c 2) (off4_eq c 1) _ _))) $$ [HS]; · isplitr <;> iassumption
  iintro HS
  iapply (step_recv X K c (k := 2) (k' := 3) (by decide) rfl (credit_out (outM_of (dn c 3) (off4_eq c 2) _ _))) $$ [HS]; · isplitr <;> iassumption
  iintro HS
  iapply (step_recv X K c (k := 3) (k' := 4) (by decide) rfl (credit_out (outM_of (dn c 4) (off4_eq c 3) _ _))) $$ [HS]; · isplitr <;> iassumption
  iintro HS
  iapply (step_recv X K c (k := 4) (k' := 5) (by decide) rfl (credit_out (outM_of (dn c 5) (off4_eq c 4) _ _))) $$ [HS]; · isplitr <;> iassumption
  iintro HS
  simp only [k0_part14_eq_skeleton]; unfold k0_part14_skel
  simp only [semSignalWord, semWaitWord, Prog.lift, Prog.bind_op, Prog.bind_ret, Prog.pure_eq_ret]
  iapply (step_recv X K c (k := 5) (k' := 6) (by decide) rfl (credit_out (outM_of (dn c 6) (off4_eq c 5) _ _))) $$ [HS]; · isplitr <;> iassumption
  iintro HS
  iapply (step_recv X K c (k := 6) (k' := 7) (by decide) rfl (credit_out (outM_of (dn c 7) (off4_eq c 6) _ _))) $$ [HS]; · isplitr <;> iassumption
  iintro HS
  unfold recvSt
  icases HS with ⟨HO, -, -, HaV, Hos⟩
  ihave HS : backSt X c 0 $$ [HO HcS HaS]
  · unfold backSt; rw [done_zero, bigSep_empty, bigSep_empty]
    isplitl [HO]; · iexact HO
    isplitl [HcS]; · rw [done_last]; iexact HcS
    isplitl [HaS]; · iexact HaS
    isplitr <;> iempintro
  iapply (step_back X K c (k := 0) (k' := 1) (by decide) rfl (credit_cast (castM_of (up c 1) (off2_eq c 0) _ _))) $$ [HS]; · isplitr <;> iassumption
  iintro HS
  iapply (step_back X K c (k := 1) (k' := 2) (by decide) rfl (credit_cast (castM_of (up c 2) (off2_eq c 1) _ _))) $$ [HS]; · isplitr <;> iassumption
  iintro HS
  iapply (step_back X K c (k := 2) (k' := 3) (by decide) rfl (credit_cast (castM_of (up c 3) (off2_eq c 2) _ _))) $$ [HS]; · isplitr <;> iassumption
  iintro HS
  iapply (step_back X K c (k := 3) (k' := 4) (by decide) rfl (credit_cast (castM_of (up c 4) (off2_eq c 3) _ _))) $$ [HS]; · isplitr <;> iassumption
  iintro HS
  iapply (step_back X K c (k := 4) (k' := 5) (by decide) rfl (credit_cast (castM_of (up c 5) (off2_eq c 4) _ _))) $$ [HS]; · isplitr <;> iassumption
  iintro HS
  iapply (step_back X K c (k := 5) (k' := 6) (by decide) rfl (credit_cast (castM_of (up c 6) (off2_eq c 5) _ _))) $$ [HS]; · isplitr <;> iassumption
  iintro HS
  iapply (step_back X K c (k := 6) (k' := 7) (by decide) rfl (credit_cast (castM_of (up c 7) (off2_eq c 6) _ _))) $$ [HS]; · isplitr <;> iassumption
  iintro HS
  unfold backSt
  icases HS with ⟨HO, -, -, HaS, Hbs⟩
  rw [done_last, wp_ret]
  imod (close K X c (jSend 0) _ (csem_send 0) 0 (duties_unused X c _ (by decide))) $$ [HaS0] with HzS0; · isplitr <;> iassumption
  imod (close K X c (jRecv 0) _ (csem_recv 0) 0 (duties_unused X c _ (by decide))) $$ [HaV0] with HzV0; · isplitr <;> iassumption
  imod (close K X c jLoc _ csem_loc 1 (duties_later X _)) $$ [HaL] with HzL; · isplitr <;> iassumption
  imod (close K X c jBar _ csem_bar 1 (duties_later X _)) $$ [HaB] with HzB; · isplitr <;> iassumption
  imod (close_all K X c _ jSend (fun k => .dma (sendS k)) csem_send) $$ [HaS] with HzS; · isplitr <;> iassumption
  imod (close_all K X c _ jRecv (fun k => .dma (recvS k)) csem_recv) $$ [HaV] with HzV; · isplitr <;> iassumption
  imodintro
  iapply Hk
  unfold bodyPost Φ₁ scr xPts
  rw [hX]
  isplitl [HzS0 HzV0 HzL HzB HzS HzV Hb0 Hbs]
  · isplitl [Hb0 Hbs]
    · iexists (castOf (X c))
      iapply (Entails.of_eq (cast_up c (castOf (X c))).symm)
      isplitl [Hb0] <;> iassumption
    iapply (Entails.of_eq (cells_eq fun s => (semVal ((c : Thread nD τ), s) 0 : sProp 𝕄)).symm)
    isplitl [HzS0 HzS]; · isplitl [HzS0] <;> iassumption
    isplitl [HzV0 HzV]; · isplitl [HzV0] <;> iassumption
    isplitl [HzL] <;> iassumption
  isplitl [HO]
  · unfold Dat.owesAt Pipeline.owesWithin owing
    icases HO with ⟨%W, HO⟩
    iexists W
    isplitr; · ipureintro; exact fun _ _ => Or.inl trivial
    iexact HO
  isplitl [Hx]
  · iexists _; isplitr; · ipureintro; rfl
    iexact Hx
  iexists (outOf X c)
  isplitr; · ipureintro; rfl
  iapply (Entails.of_eq (out_dn c (outOf X c)).symm)
  isplitl [Ho0] <;> iassumption

end Body

/-! ## The pipeline's obligation -/

set_option maxRecDepth 4000 in
/-- The body with the ghost state under its quantifier, as the pipeline hands it over. -/
theorem sound_start (c : Dev nD) :
    iprop(Φ₀ m ρ c ∗ (dats m ρ 0 c).owesAt () t₀.castSucc
        ∗ (∃ d, stg c cc0_stg0_0 ((dats m ρ 0 c).before (0 : Fin 2) t₀ d))
        ∗ (∃ d, stg c cc0_stg1_0 ((dats m ρ 0 c).before (1 : Fin 2) t₀ d)))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3) (fun _ => bodyPost m ρ c) := by
  unfold Φ₀ start
  iintro ⟨⟨⟨⟨%K, Hg⟩, HB, HV, Hl⟩, Hs⟩, Ho, Hx, Hout⟩
  iapply (sound_body m ρ K c fun _ => bodyPost m ρ c)
  unfold bodyPre
  isplitl
  · isplitl [Hg HB HV Hl Hs]
    · isplitl [Hg]; · iexact Hg
      isplitl [HB]; · iexact HB
      isplitl [HV]; · iexact HV
      isplitl [Hl] <;> iassumption
    isplitl [Ho]; · iexact Ho
    isplitl [Hx] <;> iassumption
  iintro H; iexact H

set_option maxRecDepth 4000 in
theorem body_obligation (c : Dev nD) : BodyObligation (dats (F := F) m ρ 0 c) (defs₀ (F := F)) 𝒱₀ () Set.univ := fun t => by
  rw [fin_N t, bigSep_W0, bigSep_W0]
  simp only [owns_whole_eq]
  exact sound_start m ρ c

end Cert.Exchange

end
-- ==== Proof.Launch.lean ====
/-
# The launch

The exchange's ghost state is made at launch and dealt to the devices, the credits owed are counted, and the pipeline's launch
theorem gives the run of the whole program over any float values.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state made at launch -/

theorem ownSemFacts : Pipeline.OwnSemFacts cfg0.spec osem := by decide

theorem share_eq (c : Dev nD) (w : Fin cfg0.W) : (dats m ρ 0 c).share w = fullShare := by
  unfold Dat.share; split <;> rfl

theorem csem_inj : Function.Injective csem := by decide
theorem kcell_inj : Function.Injective (kcell : Dev nD × Fin 18 → GSem nD τ sig) := fun a b h =>
  Prod.ext (congrArg (fun g : GSem nD τ sig => g.1.1) h) (csem_inj (congrArg Prod.snd h))

/-- Every cell of every device, -/
def allCells : Finset (GSem nD τ sig) := Finset.univ.map ⟨kcell, kcell_inj⟩
/-- and a token for each of eight duties at each. -/
def tokAt (x : (Dev nD × Fin 18) × Fin 8) : GSem nD τ sig × ℕ × Fin 8 := (kcell x.1, 0, x.2)
theorem tokAt_inj : Function.Injective tokAt := fun a b h =>
  Prod.ext (kcell_inj (congrArg Prod.fst h)) (congrArg (fun y : GSem nD τ sig × ℕ × Fin 8 => y.2.2) h)
def allToks : Finset (GSem nD τ sig × ℕ × Fin 8) := Finset.univ.map ⟨tokAt, tokAt_inj⟩

def u₀ : UU := (initOf (Pipeline.cells cfgs cellOf_inj) (Pipeline.launchToks cfgs cellOf_inj), initOf allCells allToks)

/-- The tokens at device `c`'s cells. -/
def toks (c : Dev nD) : sProp 𝕄 := bigSep Finset.univ fun j : Fin 18 => bigSep Finset.univ fun d : Fin 8 => dutyTok ER (kcell (c, j)) 0 d

/-- What the launch makes for device `c`: its cells' round states, its positions and round records, and the tokens there. -/
def G (c : Dev nD) : sProp 𝕄 :=
  iprop((bigSep Finset.univ fun j : Fin 18 => roundState ER (Rd (xstg m ρ)) (kcell (c, j)) 0)
    ∗ (bigSep Finset.univ fun j : Fin 18 => atPos ER (kcell (c, j)) 0 ∅ 0)
    ∗ (bigSep Finset.univ fun j : Fin 18 => reached ER (kcell (c, j)) 0) ∗ toks c)

/-- What the exchange of tokens between the devices makes of it. -/
def G' (c : Dev nD) : sProp 𝕄 := iprop(∃ K, ghost (xstg m ρ) K c)

omit [FloatOps F] in
theorem by_device (Φ : GSem nD τ sig → sProp 𝕄) :
    bigSep allCells Φ = bigSep Finset.univ fun c : Dev nD => bigSep Finset.univ fun j : Fin 18 => Φ (kcell (c, j)) := by
  unfold allCells; rw [bigSep_map, bigSep_univ_prod]; rfl

omit [FloatOps F] in
theorem toks_by_device :
    bigSep allToks (fun x => (dutyTok ER x.1 x.2.1 x.2.2 : sProp 𝕄)) = bigSep Finset.univ fun c : Dev nD => toks c := by
  unfold allToks toks; rw [bigSep_map, bigSep_univ_prod, bigSep_univ_prod]; rfl

omit [FloatOps F] in
theorem fund_all : BI.own (ER (initOf allCells allToks)) ⊢ (|==> bigSep Finset.univ (G m ρ) : sProp 𝕄) := by
  iintro H
  imod (Rounds.fund ER (Rd (xstg m ρ)) allCells allToks) $$ H with ⟨Hs, Hr, Ha, Ht⟩
  imodintro
  unfold G
  rw [bigSep_sep', bigSep_sep', bigSep_sep']
  ihave Hs := (Entails.of_eq (by_device fun g => (roundState ER (Rd (xstg m ρ)) g 0 : sProp 𝕄))) $$ Hs
  ihave Ha := (Entails.of_eq (by_device fun g => (atPos ER g 0 ∅ 0 : sProp 𝕄))) $$ Ha
  ihave Hr := (Entails.of_eq (by_device fun g => (reached ER g 0 : sProp 𝕄))) $$ Hr
  ihave Ht := (Entails.of_eq toks_by_device) $$ Ht
  isplitl [Hs]; · iexact Hs
  isplitl [Ha]; · iexact Ha
  isplitl [Hr] <;> iassumption

/-! ## A device's counters -/

omit [FloatOps F] in
/-- The launch's own counters and the one outside it are the device's cells. -/
theorem counters (c : Dev nD) :
    iprop(Pipeline.ownSems0 (Ix := Unit) (Name := ℕ) (U := UU) (Lvl := ℕ) (Val := Elt F) (τ := τ) osem c ∗ unscopedSems0 c)
      = (bigSep Finset.univ fun j : Fin 18 => semVal (kcell (c, j)) 0 : sProp 𝕄) := by
  have hu : (unscopedSems0 c : sProp 𝕄) = semVal (kcell (c, jBar)) 0 := by
    unfold unscopedSems0; rw [show (Finset.univ.filter fun s : SemLoc sig => ¬ s.isScoped .tc) = {csem jBar} by decide, bigSep_singleton]
  rw [hu, show (Finset.univ : Finset (Fin 18)) = Finset.univ.map Fin.castSuccEmb ∪ {jBar} by decide, bigSep_union (by decide), bigSep_map, bigSep_singleton]
  unfold Pipeline.ownSems0
  rw [bigSep_congr fun j _ => show (semVal ((c : Thread nD τ), osem j) 0 : sProp 𝕄) = semVal (kcell (c, Fin.castSuccEmb j)) 0 from
    congrArg (fun s => semVal ((c : Thread nD τ), s) 0) ((show ∀ j : Fin 17, osem j = csem (Fin.castSuccEmb j) by decide) j)]
  rfl

omit [FloatOps F] in
/-- On one device: counters at zero and round states make the cells. -/
theorem make_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : Fin 18 => iprop(∃ κ : ℕ, cellInv ER (Rd (xstg m ρ)) κ (kcell (c, j))))
          ∗ (bigSep Finset.univ fun j : Fin 18 => atPos ER (kcell (c, j)) 0 ∅ 0)
          ∗ (bigSep Finset.univ fun j : Fin 18 => reached ER (kcell (c, j)) 0) ∗ toks c) := by
  have alloc : iprop((bigSep Finset.univ fun j : Fin 18 => semVal (kcell (c, j)) 0)
      ∗ bigSep Finset.univ fun j : Fin 18 => roundState ER (Rd (xstg m ρ)) (kcell (c, j)) 0)
      ⊢ (|={Set.univ}=> bigSep Finset.univ fun j : Fin 18 => iprop(∃ κ : ℕ, cellInv ER (Rd (xstg m ρ)) κ (kcell (c, j))) : sProp 𝕄) := by
    rw [← bigSep_sep']
    exact (bigSep_mono fun j _ => (Rounds.body_intro ER (Rd (xstg m ρ)) (kcell (c, j))).trans inv_alloc).trans (bigSep_fupd _ _)
  unfold G
  iintro ⟨Ho, Hu, Hs, Hrest⟩
  ihave Hv := (Entails.of_eq (counters (F := F) c)) $$ [Ho Hu]
  · isplitl [Ho] <;> iassumption
  imod alloc $$ [Hv Hs] with HI
  · isplitl [Hv] <;> iassumption
  imodintro
  isplitl [HI] <;> iassumption

/-! ## Dealing the tokens -/

/-- The tokens at device `c`'s cells that the exchange uses. -/
def usedToks (c : Dev nD) : sProp 𝕄 :=
  iprop((bigSep (pend 0) fun k => dutyTok ER (barCell c) 0 k) ∗ (bigSep (pend 0) fun k => dutyTok ER (recvCell c k) 0 0)
    ∗ (bigSep (pend 0) fun k => dutyTok ER (sendCell c k) 0 0) ∗ dutyTok ER (locCell c) 0 0)

omit [FloatOps F] in
theorem toks_used (c : Dev nD) : (toks c : sProp 𝕄) ⊢ usedToks c := by
  unfold toks usedToks
  refine (Entails.of_eq (cells_eq fun s => (bigSep Finset.univ fun d : Fin 8 => dutyTok ER ((c : Thread nD τ), s) 0 d : sProp 𝕄))).trans ?_
  iintro ⟨⟨-, Hs⟩, ⟨-, Hv⟩, Hl, Hb⟩
  isplitl [Hb]
  · iapply (show (bigSep Finset.univ fun d : Fin 8 => dutyTok ER (barCell c) 0 d : sProp 𝕄) ⊢ bigSep (pend 0) fun k => dutyTok ER (barCell c) 0 k
      from bigSep_subset (Finset.subset_univ _)); iexact Hb
  isplitl [Hv]
  · iapply (show (bigSep (pend 0) fun k => bigSep Finset.univ fun d : Fin 8 => dutyTok ER (recvCell c k) 0 d : sProp 𝕄)
      ⊢ bigSep (pend 0) fun k => dutyTok ER (recvCell c k) 0 0 from bigSep_mono fun k _ => one_of _ 0); iexact Hv
  isplitl [Hs]
  · iapply (show (bigSep (pend 0) fun k => bigSep Finset.univ fun d : Fin 8 => dutyTok ER (sendCell c k) 0 d : sProp 𝕄)
      ⊢ bigSep (pend 0) fun k => dutyTok ER (sendCell c k) 0 0 from bigSep_mono fun k _ => one_of _ 0); iexact Hs
  iapply (one_of (fun d : Fin 8 => (dutyTok ER (locCell c) 0 d : sProp 𝕄)) 0); iexact Hl

omit [FloatOps F] in
theorem sep_swap (t : Finset (Fin 8)) (Φ : Dev nD → Fin 8 → sProp 𝕄) :
    (bigSep Finset.univ fun c : Dev nD => bigSep t (Φ c)) = bigSep t fun k => bigSep Finset.univ fun c : Dev nD => Φ c k := by
  induction t using Finset.induction_on with
  | empty =>
    simp only [bigSep_empty]
    exact bigSep_emp_const _
  | insert k t hk ih =>
    rw [bigSep_insert hk, ← ih]
    exact (bigSep_congr fun c _ => bigSep_insert hk).trans (bigSep_sep' _ _ _)

omit [FloatOps F] in
/-- A family over devices and shifts, each member moved to the device its shift away. -/
theorem deal (Φ : Dev nD → Fin 8 → sProp 𝕄) :
    (bigSep Finset.univ fun c : Dev nD => bigSep (pend 0) (Φ c))
      = bigSep Finset.univ fun c : Dev nD => bigSep (pend 0) fun k => Φ (up c k) k := by
  rw [sep_swap, sep_swap]
  exact bigSep_congr fun k _ => bigSep_univ_equiv (shift k) _

omit [FloatOps F] in
/-- Each token goes to the device that pays its duty. -/
theorem toks_dealt : (bigSep Finset.univ fun c : Dev nD => (toks c : sProp 𝕄)) ⊢ bigSep Finset.univ fun c : Dev nD => payToks c := by
  refine (bigSep_mono fun c _ => toks_used c).trans ?_
  show (bigSep Finset.univ fun c : Dev nD => (usedToks c : sProp 𝕄)) ⊢ _
  refine Entails.of_eq ?_
  unfold usedToks payToks
  simp only [bigSep_sep']
  rw [deal fun c k => dutyTok ER (recvCell c k) 0 0,
    show (bigSep Finset.univ fun c : Dev nD => bigSep (pend 0) fun k => (dutyTok ER (barCell c) 0 k : sProp 𝕄))
      = bigSep Finset.univ fun c : Dev nD => bigSep (pend 0) fun k => dutyTok ER (barCell c) 0 (neg k) from
      bigSep_congr fun c _ => (congrArg (bigSep · fun k => (dutyTok ER (barCell c) 0 k : sProp 𝕄)) pend_neg).trans (bigSep_map _),
    deal fun c k => dutyTok ER (barCell c) 0 (neg k)]

omit [FloatOps F] in
/-- From every device's cells, positions and tokens to every device's ghost state. -/
theorem regroup :
    (bigSep Finset.univ fun c : Dev nD => iprop((bigSep Finset.univ fun j : Fin 18 => iprop(∃ κ : ℕ, cellInv ER (Rd (xstg m ρ)) κ (kcell (c, j))))
          ∗ (bigSep Finset.univ fun j : Fin 18 => atPos ER (kcell (c, j)) 0 ∅ 0)
          ∗ (bigSep Finset.univ fun j : Fin 18 => reached ER (kcell (c, j)) 0) ∗ toks c) : sProp 𝕄)
      ⊢ bigSep Finset.univ (G' m ρ) := by
  simp only [bigSep_sep']
  rw [← bigSep_univ_prod (fun cj : Dev nD × Fin 18 => iprop(∃ κ : ℕ, cellInv ER (Rd (xstg m ρ)) κ (kcell cj))),
    ← bigSep_univ_prod (fun cj : Dev nD × Fin 18 => (reached ER (kcell cj) 0 : sProp 𝕄))]
  iintro ⟨HI, Ha, #Hr, Ht⟩
  ihave HI := (BI.bigSep_exists_pi Finset.univ fun (cj : Dev nD × Fin 18) (κ : ℕ) => (cellInv ER (Rd (xstg m ρ)) κ (kcell cj) : sProp 𝕄)) $$ HI
  icases HI with ⟨%K, #HI⟩
  ihave Ht := (toks_dealt (F := F)) $$ Ht
  iapply (each_with (R := recs (xstg m ρ) K) (Φ := fun c : Dev nD => iprop((bigSep Finset.univ fun j : Fin 18 => atPos ER (kcell (c, j)) 0 ∅ 0) ∗ payToks c))
    fun c _ => show _ ⊢ G' m ρ c by
      unfold G' ghost
      iintro ⟨H1, H2, H3⟩
      iexists K
      isplitl [H1]; · iexact H1
      isplitl [H2] <;> iassumption)
  isplitr
  · unfold recs; isplitr; · iexact HI
    iexact Hr
  rw [bigSep_sep']
  isplitl [Ha] <;> iassumption

omit [FloatOps F] in
theorem glob :
    (bigSep Finset.univ fun c => iprop(Pipeline.ownSems0 (Ix := Unit) (Name := ℕ) (U := UU) (Lvl := ℕ) (Val := Elt F) (τ := τ) osem c ∗ unscopedSems0 c ∗ G m ρ c) : sProp 𝕄)
      ⊢ |={Set.univ}=> bigSep Finset.univ (G' m ρ) :=
  ((bigSep_mono fun c _ => make_cells m ρ c).trans (bigSep_fupd _ _)).trans (BI.fupd_mono (regroup m ρ))

/-! ## The credits owed at launch -/

theorem bar_iff (a b : Dev nD) : barCell a = barCell b ↔ a = b := ⟨fun h => congrArg (fun g : GSem nD τ sig => g.1.1) h, fun h => h ▸ rfl⟩
theorem recv_iff (a b : Dev nD) (k l : Fin 8) : recvCell a k = recvCell b l ↔ a = b ∧ k = l :=
  ⟨fun h => ⟨congrArg (fun g : GSem nD τ sig => g.1.1) h,
      (show ∀ k l : Fin 8, SemLoc.dma (recvS k) = (SemLoc.dma (recvS l) : SemLoc sig) → k = l by decide) k l (congrArg Prod.snd h)⟩,
    fun h => by rw [h.1, h.2]⟩
theorem bar_ne_recv (a b : Dev nD) (k : Fin 8) : barCell a ≠ recvCell b k := fun h => nomatch congrArg Prod.snd h

/-- All devices together owe a barrier seven units, -/
theorem owed_bar (c : Dev nD) : ∑ d : Dev nD, O₀ d (barCell c) () = 7 := by
  have e (d : Dev nD) : O₀ d (barCell c) () = ∑ k ∈ pend 0, if c = up d k then 1 else 0 := by
    unfold O₀
    rw [Pi.add_apply, Finsupp.add_apply, OR_apply, OB_apply, Finset.sum_eq_zero fun k _ => if_neg (bar_ne_recv c _ k), Nat.zero_add]
    exact Finset.sum_congr rfl fun k _ => if_congr (bar_iff c _) rfl rfl
  rw [Finset.sum_congr rfl fun d _ => e d]
  clear e; revert c; decide
/-- and each receive counter in use one transfer's credit. -/
theorem owed_recv (c : Dev nD) (k : Fin 8) (hk : k ∈ pend 0) : ∑ d : Dev nD, O₀ d (recvCell c k) () = N := by
  have e (d : Dev nD) : O₀ d (recvCell c k) () = (∑ l ∈ pend 0, if c = up d l ∧ k = l then 1 else 0) * N := by
    unfold O₀
    rw [Pi.add_apply, Finsupp.add_apply, OR_apply, OB_apply, Finset.sum_eq_zero (s := pend 0) (f := fun l => if recvCell c k = barCell (up d l) then 1 else 0)
      fun l _ => if_neg (bar_ne_recv _ c k).symm, Nat.add_zero, Finset.sum_mul]
    exact Finset.sum_congr rfl fun l _ => by rw [if_congr (recv_iff c _ k l) rfl rfl, ite_mul, Nat.one_mul, Nat.zero_mul]
  rw [Finset.sum_congr rfl fun d _ => e d, ← Finset.sum_mul,
    (show ∀ (c : Dev nD) (k : Fin 8), k ∈ pend 0 → ∑ d : Dev nD, (∑ l ∈ pend 0, if c = up d l ∧ k = l then 1 else 0) = 1 by decide) c k hk, Nat.one_mul]

theorem launch_eq (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

def recvLoc : Fin 8 ↪ SemLoc sig := ⟨fun k => .dma (recvS k), by decide⟩

omit [FloatOps F] in
theorem creds (c : Dev nD) :
    (Pipeline.launchCred O₀ c : sProp 𝕄) ⊢ iprop(cred (tallyAt (barCell c) () 7) ∗ bigSep (pend 0) fun k => cred (tallyAt (recvCell c k) () N)) := by
  unfold Pipeline.launchCred
  rw [bigSep_univ_at _ (SemLoc.reg barS), launch_eq _ _ (owed_bar c)]
  refine sep_mono_right ((bigSep_subset (t := (pend 0).map recvLoc) (by decide)).trans ?_)
  rw [bigSep_map]
  show (bigSep (pend 0) fun k => (cred (tallyOn (recvCell c k) (launchCredit (Pipeline.owing O₀) 0 (recvCell c k))) : sProp 𝕄)) ⊢ _
  refine Entails.of_eq ?_
  exact bigSep_congr fun k hk => congrArg cred (launch_eq (recvCell c k) N (owed_recv c k hk))

/-! ## The launch theorem's conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (xstg m ρ) c ∗ emp) := by
  iintro ⟨-, Hl, Hc, -, HG⟩
  ihave Hc := (creds (F := F) c) $$ Hc
  icases Hc with ⟨HB, HV⟩
  imodintro
  unfold start G'
  isplitl
  · isplitl [HG]; · iexact HG
    isplitl [HB]; · iexact HB
    isplitl [HV] <;> iassumption
  iempintro

theorem enter (c : Dev nD) :
    iprop(start (xstg m ρ) c ∗ Pipeline.prefHeld Pipeline.Prefetch.none c (fun _ => fullShare.right) (fun k => k.elim0) ∗ Pipeline.scopedRest cfg0.spec c)
      ⊢ (dats m ρ 0 c).Φ 0 := by
  show _ ⊢ Φ₀ m ρ c
  rw [scopedRest0_eq]
  unfold Φ₀ scr
  iintro ⟨Hs, -, Hb⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  show Φ₁ c ⊢ _
  rw [scopedRest0_eq]
  unfold Φ₁ scr
  iintro ⟨Hb, Hz⟩
  ihave Hz := (Entails.of_eq (counters (F := F) c).symm) $$ Hz
  icases Hz with ⟨Ho, Hu⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact .inl rfl
      · exact .inr rfl)

/-! ## The run -/

/-- What the window's array holds after the run. -/
def finalA (c : Dev nD) (w : Fin cfg0.W) : Buf (Elt F) ((cfg0.win w).arr.view.loc (c : Thread nD τ)) := (dats m ρ 0 c).arrAt w cfg0.N

def Final (r : PUnit × MemSt nD τ sig (Elt F)) : Prop :=
  ∀ (c : Dev nD) (w : Fin cfg0.W), r.2.mem ((cfg0.win w).arr.view.loc (c : Thread nD τ)) = finalA m ρ c w

set_option maxRecDepth 8000 in
/-- From any memory, for any float values, every fair execution of the eight devices ends, each window's array holding the
    body's contents and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start (xstg m ρ)) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of rows a device holds is not changed by the run. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange

end
-- ==== Proof.Value.lean ====
/-
# The value

What the result array holds after the run, as the claim states it: when every device starts with its block of rows of one
square array, every device ends with its block of columns of that array. The reference returns its argument.
-/
module

public import proofs.«01_k».proof.Proof.Launch
public import proofs.«01_k».proof.Proof.Gen.KernelIdeal.Points
public import proofs.«01_k».proof.Proof.Gen.ReferenceIdeal
public import Idealize.ShloMosaic.Lib.Layout
public import Idealize.ShloMosaic.Lib.Pipeline.ValueKit.Geometry
public import Idealize.ShloMosaic.Lib.StableHlo.Run

@[expose] public section

noncomputable section

namespace Cert.Exchange

open Cert.KernelIdeal Cert.KernelIdeal.Gen

open Idealize.ShloMosaic
open Idealize.ShloMosaic.TcCoe
open Idealize.ShloMosaic.ValueIdx
open Idealize.SL.Sem

variable {F : FTy → Type} [FloatOps F]

section Kernel

variable (m : (ℓ : Loc nD τ sig) → Buf (Elt F) ℓ) (ρ : Dev nD → PrngReg)

/-- A device's staged rows are its argument buffer. -/
theorem xstg_eq (c : Dev nD) : xstg m ρ c = m ((c : Thread nD τ).loc main_arg0) := by
  funext i
  show m ((c : Thread nD τ).loc main_arg0) ((win0_0.blk (0 : Fin 1)).view.emb i) = _
  refine congrArg _ (funext fun a => ?_)
  match a with
  | ⟨0, _⟩ => exact Fin.ext (by show 0 * 512 + 1 * (i 0).val = _; simp)
  | ⟨1, _⟩ => exact Fin.ext (by show 0 * 4096 + 1 * (i 1).val = _; simp)

/-- The result array of device `c` after the run. -/
theorem finalA_out (c : Dev nD) : finalA m ρ c (1 : Fin 2) = outOf (fun d => m ((d : Thread nD τ).loc main_arg0)) c := by
  have h := (dats m ρ 0 c).arrAt_eq_of_after_last (1 : Fin 2) t₀ (by decide +kernel) (outOf (xstg m ρ) c) (fun j => rfl)
  exact Eq.trans h (congrArg (outOf · c) (funext (xstg_eq m ρ)))

omit [FloatOps F] in
/-- Exchanging the blocks of rows of a square array gives its blocks of columns. -/
theorem outOf_block (v : (⟨2, ![4096, 4096]⟩ : Shape).Idx → Elt F .bf16) (c : Dev nD) :
    outOf (fun d => (Layout.block ⟨2, ![512, 4096]⟩ ⟨2, ![4096, 4096]⟩ 0 8 d v : (cc0_stg0_0 : Ref sig .tc).ty.Contents (Elt F))) c
      = Layout.block ⟨2, ![4096, 512]⟩ ⟨2, ![4096, 4096]⟩ 1 8 c v := by
  funext i
  show v _ = v _
  refine congrArg v (funext fun a => ?_)
  match a with
  | ⟨0, _⟩ => exact Fin.ext (by show (i 0).val / 512 * 512 + (i 0).val % 512 = (i 0).val; omega)
  | ⟨1, _⟩ => exact Fin.ext (by show 512 * c.val + (i 1).val = c.val * 512 + (i 1).val; omega)

/-- The kernel run: arguments unchanged, counters at zero. -/
theorem run_frame :
    θ_run defs (onTc (τ := τ) (main (F := F))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun _ h => ⟨fun c => (h.1 c (0 : Fin 2)).trans (finalA_x m ρ c), h.2⟩) (run_main m ρ)

/-- The kernel run from the blocks of rows of `v`: results at its blocks of columns, arguments unchanged. -/
theorem run_value (v : (⟨2, ![4096, 4096]⟩ : Shape).Idx → Elt F .bf16)
    (hv : ∀ c : Dev nD, m ((c : Thread nD τ).loc main_arg0) = Layout.block ⟨2, ![512, 4096]⟩ ⟨2, ![4096, 4096]⟩ 0 8 c v) :
    θ_run defs (onTc (τ := τ) (main (F := F))) ⟨m, fun _ => 0, ρ⟩ fun r => ∀ c : Dev nD,
      r.2.mem ((c : Thread nD τ).loc main_v1) = Layout.block ⟨2, ![4096, 512]⟩ ⟨2, ![4096, 4096]⟩ 1 8 c v
        ∧ r.2.mem ((c : Thread nD τ).loc main_arg0) = m ((c : Thread nD τ).loc main_arg0) :=
  (θ_run defs _ _).mono (fun r h c => ⟨(h.1 c (1 : Fin 2)).trans ((finalA_out m ρ c).trans
      ((congrArg (outOf · c) (funext hv)).trans (outOf_block v c))), (h.1 c (0 : Fin 2)).trans (finalA_x m ρ c)⟩) (run_main m ρ)

end Kernel

/-- The reference run: its argument, which is its result, unchanged, and no counter raised. -/
theorem run_reference (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      (∀ c : Dev Cert.ReferenceIdeal.nD, r.2.mem ((c.tc : Thread _ Cert.ReferenceIdeal.τ).loc Cert.ReferenceIdeal.main_arg0)
        = m ((c.tc : Thread _ Cert.ReferenceIdeal.τ).loc Cert.ReferenceIdeal.main_arg0)) ∧ r.2.sem = fun _ => 0 :=
  (θ_run Cert.ReferenceIdeal.defs _ _).mono
    (fun r h => ⟨fun c => h c Cert.ReferenceIdeal.main_arg0, sem_eq_zero_of_no_sems (by decide) r.2⟩)
    (StableHlo.run_seq (by decide) (by decide) Cert.ReferenceIdeal.defs Cert.ReferenceIdeal.main (fun _ => []) (fun _ => rfl) (fun _ => trivial) m ρ)

end Cert.Exchange

end
-- ==== Proof.lean ====
/-
# The certificate

The five claims: the printed kernel, its idealization and the reference run to the end with arguments unchanged and every
counter at zero; the idealization rewrites nothing; and from the blocks of rows of a square array the kernel leaves on each
device its block of columns of the reference's result, the array itself.

The run of the kernel is proved once, in Proof/Launch.lean, for any float values; the printed kernel's is its instance at the
hardware's formats.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value

@[expose] public section

noncomputable section

namespace Cert.Proof

open Idealize.ShloMosaic Idealize.SL.Sem

/-- The two printings give the launch's one label the same body, -/
theorem bodies_eq : Cert.Kernel.defs₀ (F := Bits) = Cert.KernelIdeal.defs₀ (F := Bits) := by
  refine congrArg Defs.onTc (funext fun l => ?_)
  match l with
  | 0 => exact funext fun ⟨_, _⟩ => rfl
  | ⟨_ + 1, h⟩ => exact absurd h (Nat.not_lt.2 (Nat.le_add_left _ _))

/-- so the same definitions around it. -/
theorem defs_eq : Cert.Kernel.defs (F := Bits) = Cert.KernelIdeal.defs (F := Bits) :=
  congrArg (Pipeline.defs Cert.KernelIdeal.pcfgs) bodies_eq

/-- The printed kernel runs to the end, its arguments unchanged, all counters at zero. -/
theorem frame_kernel : Cert.quiescent_Kernel := by
  intro m ρ _
  have h := Exchange.run_frame (F := Bits) m ρ
  rw [← defs_eq] at h
  exact h

/-- So does its idealization, -/
theorem frame_ideal : Cert.quiescent_KernelIdeal := fun m ρ _ => Exchange.run_frame (F := Ideal) m ρ

/-- and the reference. -/
theorem frame_reference : Cert.quiescent_ReferenceIdeal := fun m ρ _ => Exchange.run_reference (F := Ideal) m ρ

/-- The kernel computes the reference's result: each device's block of columns of it. -/
theorem value : Cert.algebraic_KernelIdeal_ReferenceIdeal := fun m ρ m' ρ' _ hagree =>
  ⟨_, Exchange.run_value m ρ _ hagree,
    (θ_run Cert.ReferenceIdeal.defs _ _).mono (fun _ h => ⟨h.1 0, h.1 0⟩) (Exchange.run_reference m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
